-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S4x256x1024 : Shape := ⟨3, ![4, 256, 1024]⟩
abbrev S4 : Shape := ⟨1, ![4]⟩
abbrev S_ : Shape := ⟨0, ![]⟩
abbrev S1 : Shape := ⟨1, ![1]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S256x1024, .bf16⟩
  | .hbm, ⟨2, _⟩ => ⟨S1024x1024, .bf16⟩
  | .local _ .vmem, ⟨0, _⟩ => ⟨S1024x256, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S4x256x1024, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_73 : BitVec 32 := 0#32
  let c0_i32_71 : BitVec 32 := 0#32
  let c1_i32_72 : BitVec 32 := 1#32
  let v119 : BitVec 32 := Scalar.muli c0_i32_71 c1_i32_72
  let v120 : BitVec 32 := Scalar.addi c0_i32_73 v119
  v120.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_73 : BitVec 32 := 0#32
  let c1_i32_71 : BitVec 32 := 1#32
  let c1_i32_72 : BitVec 32 := 1#32
  let v119 : BitVec 32 := Scalar.muli c1_i32_71 c1_i32_72
  let v120 : BitVec 32 := Scalar.addi c0_i32_73 v119
  v120.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_73 : BitVec 32 := 0#32
  let c2_i32_71 : BitVec 32 := 2#32
  let c1_i32_72 : BitVec 32 := 1#32
  let v119 : BitVec 32 := Scalar.muli c2_i32_71 c1_i32_72
  let v120 : BitVec 32 := Scalar.addi c0_i32_73 v119
  v120.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_73 : BitVec 32 := 0#32
  let c3_i32_71 : BitVec 32 := 3#32
  let c1_i32_72 : BitVec 32 := 1#32
  let v119 : BitVec 32 := Scalar.muli c3_i32_71 c1_i32_72
  let v120 : BitVec 32 := Scalar.addi c0_i32_73 v119
  v120.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v25 : BitVec 1 := Scalar.cmpi .ne v2 c0_i32_11
  let v26 : BitVec 32 := Scalar.extui v25
  let c0_i32_12 : BitVec 32 := 0#32
  let v27 : BitVec 1 := Scalar.cmpi .ne v26 c0_i32_12
  v27

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_74 : BitVec 32 := 0#32
  let c0_i32_75 : BitVec 32 := 0#32
  ![v2.toNat, 0, 0]
def k0_dev5 : Nat :=
  let c0_i32_73 : BitVec 32 := 0#32
  let c0_i32_71 : BitVec 32 := 0#32
  let c1_i32_72 : BitVec 32 := 1#32
  let v119 : BitVec 32 := Scalar.muli c0_i32_71 c1_i32_72
  let v120 : BitVec 32 := Scalar.addi c0_i32_73 v119
  v120.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v28 : BitVec 1 := Scalar.cmpi .ne v2 c1_i32_13
  let v29 : BitVec 32 := Scalar.extui v28
  let c0_i32_14 : BitVec 32 := 0#32
  let v30 : BitVec 1 := Scalar.cmpi .ne v29 c0_i32_14
  v30

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_74 : BitVec 32 := 0#32
  let c0_i32_75 : BitVec 32 := 0#32
  ![v2.toNat, 0, 0]
def k0_dev6 : Nat :=
  let c0_i32_73 : BitVec 32 := 0#32
  let c1_i32_71 : BitVec 32 := 1#32
  let c1_i32_72 : BitVec 32 := 1#32
  let v119 : BitVec 32 := Scalar.muli c1_i32_71 c1_i32_72
  let v120 : BitVec 32 := Scalar.addi c0_i32_73 v119
  v120.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_15 : BitVec 32 := 2#32
  let v31 : BitVec 1 := Scalar.cmpi .ne v2 c2_i32_15
  let v32 : BitVec 32 := Scalar.extui v31
  let c0_i32_16 : BitVec 32 := 0#32
  let v33 : BitVec 1 := Scalar.cmpi .ne v32 c0_i32_16
  v33

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_74 : BitVec 32 := 0#32
  let c0_i32_75 : BitVec 32 := 0#32
  ![v2.toNat, 0, 0]
def k0_dev7 : Nat :=
  let c0_i32_73 : BitVec 32 := 0#32
  let c2_i32_71 : BitVec 32 := 2#32
  let c1_i32_72 : BitVec 32 := 1#32
  let v119 : BitVec 32 := Scalar.muli c2_i32_71 c1_i32_72
  let v120 : BitVec 32 := Scalar.addi c0_i32_73 v119
  v120.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_17 : BitVec 32 := 3#32
  let v34 : BitVec 1 := Scalar.cmpi .ne v2 c3_i32_17
  let v35 : BitVec 32 := Scalar.extui v34
  let c0_i32_18 : BitVec 32 := 0#32
  let v36 : BitVec 1 := Scalar.cmpi .ne v35 c0_i32_18
  v36

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_74 : BitVec 32 := 0#32
  let c0_i32_75 : BitVec 32 := 0#32
  ![v2.toNat, 0, 0]
def k0_dev8 : Nat :=
  let c0_i32_73 : BitVec 32 := 0#32
  let c3_i32_71 : BitVec 32 := 3#32
  let c1_i32_72 : BitVec 32 := 1#32
  let v119 : BitVec 32 := Scalar.muli c3_i32_71 c1_i32_72
  let v120 : BitVec 32 := Scalar.addi c0_i32_73 v119
  v120.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v37 : BitVec 32 := Scalar.muli v2 c256_i32
  let v38 : Index := Scalar.indexCast v37
  let c0_19 : Index := 0#32
  ![v38.toNat, 0]
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_38 : BitVec 32 := 0#32
  let v71 : BitVec 1 := Scalar.cmpi .ne v2 c0_i32_38
  let v72 : BitVec 32 := Scalar.extui v71
  let c0_i32_39 : BitVec 32 := 0#32
  let v73 : BitVec 1 := Scalar.cmpi .ne v72 c0_i32_39
  v73

def k0_off10 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_71 : BitVec 32 := 256#32
  let v120 : BitVec 32 := Scalar.muli v2 c256_i32_71
  let c0_i32_76 : BitVec 32 := 0#32
  ![v120.toNat, 0]
def k0_dev9 : Nat :=
  let c0_i32_75 : BitVec 32 := 0#32
  let c0_i32_73 : BitVec 32 := 0#32
  let c1_i32_74 : BitVec 32 := 1#32
  let v121 : BitVec 32 := Scalar.muli c0_i32_73 c1_i32_74
  let v122 : BitVec 32 := Scalar.addi c0_i32_75 v121
  v122.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v74 : BitVec 1 := Scalar.cmpi .ne v2 c1_i32_40
  let v75 : BitVec 32 := Scalar.extui v74
  let c0_i32_41 : BitVec 32 := 0#32
  let v76 : BitVec 1 := Scalar.cmpi .ne v75 c0_i32_41
  v76

def k0_off12 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_71 : BitVec 32 := 256#32
  let v120 : BitVec 32 := Scalar.muli v2 c256_i32_71
  let c0_i32_76 : BitVec 32 := 0#32
  ![v120.toNat, 0]
def k0_dev10 : Nat :=
  let c0_i32_75 : BitVec 32 := 0#32
  let c1_i32_73 : BitVec 32 := 1#32
  let c1_i32_74 : BitVec 32 := 1#32
  let v121 : BitVec 32 := Scalar.muli c1_i32_73 c1_i32_74
  let v122 : BitVec 32 := Scalar.addi c0_i32_75 v121
  v122.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_42 : BitVec 32 := 2#32
  let v77 : BitVec 1 := Scalar.cmpi .ne v2 c2_i32_42
  let v78 : BitVec 32 := Scalar.extui v77
  let c0_i32_43 : BitVec 32 := 0#32
  let v79 : BitVec 1 := Scalar.cmpi .ne v78 c0_i32_43
  v79

def k0_off14 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_71 : BitVec 32 := 256#32
  let v120 : BitVec 32 := Scalar.muli v2 c256_i32_71
  let c0_i32_76 : BitVec 32 := 0#32
  ![v120.toNat, 0]
def k0_dev11 : Nat :=
  let c0_i32_75 : BitVec 32 := 0#32
  let c2_i32_73 : BitVec 32 := 2#32
  let c1_i32_74 : BitVec 32 := 1#32
  let v121 : BitVec 32 := Scalar.muli c2_i32_73 c1_i32_74
  let v122 : BitVec 32 := Scalar.addi c0_i32_75 v121
  v122.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_44 : BitVec 32 := 3#32
  let v80 : BitVec 1 := Scalar.cmpi .ne v2 c3_i32_44
  let v81 : BitVec 32 := Scalar.extui v80
  let c0_i32_45 : BitVec 32 := 0#32
  let v82 : BitVec 1 := Scalar.cmpi .ne v81 c0_i32_45
  v82

def k0_off16 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_71 : BitVec 32 := 256#32
  let v120 : BitVec 32 := Scalar.muli v2 c256_i32_71
  let c0_i32_76 : BitVec 32 := 0#32
  ![v120.toNat, 0]
def k0_dev12 : Nat :=
  let c0_i32_75 : BitVec 32 := 0#32
  let c3_i32_73 : BitVec 32 := 3#32
  let c1_i32_74 : BitVec 32 := 1#32
  let v121 : BitVec 32 := Scalar.muli c3_i32_73 c1_i32_74
  let v122 : BitVec 32 := Scalar.addi c0_i32_75 v121
  v122.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_46 : BitVec 32 := 0#32
  let v83 : BitVec 1 := Scalar.cmpi .ne v2 c0_i32_46
  let v84 : BitVec 32 := Scalar.extui v83
  let c0_i32_47 : BitVec 32 := 0#32
  let v85 : BitVec 1 := Scalar.cmpi .ne v84 c0_i32_47
  v85

def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_75 : BitVec 32 := 0#32
  let c0_i32_76 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v86 : BitVec 1 := Scalar.cmpi .ne v2 c1_i32_48
  let v87 : BitVec 32 := Scalar.extui v86
  let c0_i32_49 : BitVec 32 := 0#32
  let v88 : BitVec 1 := Scalar.cmpi .ne v87 c0_i32_49
  v88

def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_75 : BitVec 32 := 0#32
  let c0_i32_76 : BitVec 32 := 0#32
  ![v2.toNat, 0, 0]
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_50 : BitVec 32 := 2#32
  let v89 : BitVec 1 := Scalar.cmpi .ne v2 c2_i32_50
  let v90 : BitVec 32 := Scalar.extui v89
  let c0_i32_51 : BitVec 32 := 0#32
  let v91 : BitVec 1 := Scalar.cmpi .ne v90 c0_i32_51
  v91

def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_74 : BitVec 32 := 0#32
  let c0_i32_75 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_52 : BitVec 32 := 3#32
  let v92 : BitVec 1 := Scalar.cmpi .ne v2 c3_i32_52
  let v93 : BitVec 32 := Scalar.extui v92
  let c0_i32_53 : BitVec 32 := 0#32
  let v94 : BitVec 1 := Scalar.cmpi .ne v93 c0_i32_53
  v94

def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_74 : BitVec 32 := 0#32
  let c0_i32_75 : BitVec 32 := 0#32
  ![v2.toNat, 0, 0]
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_62 : BitVec 32 := 0#32
  let v107 : BitVec 1 := Scalar.cmpi .ne v2 c0_i32_62
  let v108 : BitVec 32 := Scalar.extui v107
  let c0_i32_63 : BitVec 32 := 0#32
  let v109 : BitVec 1 := Scalar.cmpi .ne v108 c0_i32_63
  v109

def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_70 : BitVec 32 := 256#32
  let v119 : BitVec 32 := Scalar.muli v2 c256_i32_70
  let c0_i32_76 : BitVec 32 := 0#32
  ![v119.toNat, 0]
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_64 : BitVec 32 := 1#32
  let v110 : BitVec 1 := Scalar.cmpi .ne v2 c1_i32_64
  let v111 : BitVec 32 := Scalar.extui v110
  let c0_i32_65 : BitVec 32 := 0#32
  let v112 : BitVec 1 := Scalar.cmpi .ne v111 c0_i32_65
  v112

def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_70 : BitVec 32 := 256#32
  let v119 : BitVec 32 := Scalar.muli v2 c256_i32_70
  let c0_i32_76 : BitVec 32 := 0#32
  ![v119.toNat, 0]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_66 : BitVec 32 := 2#32
  let v113 : BitVec 1 := Scalar.cmpi .ne v2 c2_i32_66
  let v114 : BitVec 32 := Scalar.extui v113
  let c0_i32_67 : BitVec 32 := 0#32
  let v115 : BitVec 1 := Scalar.cmpi .ne v114 c0_i32_67
  v115

def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_70 : BitVec 32 := 256#32
  let v119 : BitVec 32 := Scalar.muli v2 c256_i32_70
  let c0_i32_76 : BitVec 32 := 0#32
  ![v119.toNat, 0]
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_68 : BitVec 32 := 3#32
  let v116 : BitVec 1 := Scalar.cmpi .ne v2 c3_i32_68
  let v117 : BitVec 32 := Scalar.extui v116
  let c0_i32_69 : BitVec 32 := 0#32
  let v118 : BitVec 1 := Scalar.cmpi .ne v117 c0_i32_69
  v118

def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_70 : BitVec 32 := 256#32
  let v119 : BitVec 32 := Scalar.muli v2 c256_i32_70
  let c0_i32_76 : BitVec 32 := 0#32
  ![v119.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Proof.Places.lean ====
/-
# Places and contents

The buffers, row blocks, slots and semaphores that the kernel's protocol speaks about, and the contents that pass
through them, as functions of every device's two staged operands `X` and `Y`.

Device `c` multiplies its column block of the left operand by its row block of the right one: `part X Y c`, a whole
1024x1024 array, of which row block `j` is what device `j` needs (`prow X Y c j`). Device `c` adds the four parts of
its own row block (`accOf`), applies the activation (`blockOut`), and sends the block to everyone; the array that
every device ends with is `whole X Y`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Mesh

open Cert.KernelIdeal Cert.KernelIdeal.Gen
open Idealize.ShloMosaic Idealize.ShloMosaic.TcCoe
open Idealize.SL Idealize.SL.Sem

variable {F : FTy → Type} [FloatOps F]

/-! ## Buffers, row blocks, slots -/

abbrev xM : Memref sig .tc .vmem S1024x256 .bf16 := Memref.whole cc0_stg0_0
abbrev yM : Memref sig .tc .vmem S256x1024 .bf16 := Memref.whole cc0_stg1_0
abbrev oM : Memref sig .tc .vmem S1024x1024 .bf16 := Memref.whole cc0_stg2_0
abbrev pM : Memref sig .tc .vmem S1024x1024 .bf16 := Memref.whole cc0_scratch0
abbrev aM : Memref sig .tc .vmem S256x1024 .f32 := Memref.whole cc0_scratch1
abbrev bM : Memref sig .tc .vmem S4x256x1024 .bf16 := Memref.whole cc0_scratch2

/-- Row block `j` of a 1024x1024 array lies inside it. -/
theorem row_inb (j : Fin 4) : ∀ a, (![256 * j.val, 0] : Fin 2 → Nat) a + S256x1024.size a ≤ S1024x1024.size a := by
  revert j; decide
/-- Slot `j` of the landing buffer lies inside it. -/
theorem slot_inb (j : Fin 4) : ∀ a, (![j.val, 0, 0] : Fin 3 → Nat) a + S1x256x1024.size a ≤ S4x256x1024.size a := by
  revert j; decide

abbrev rowR (j : Fin 4) : Rect S1024x1024 := Rect.unit ![256 * j.val, 0] S256x1024.size (row_inb j)
abbrev slotR (j : Fin 4) : Rect S4x256x1024 := Rect.unit ![j.val, 0, 0] S1x256x1024.size (slot_inb j)

/-- Row block `j` of the product's buffer; -/
abbrev pRow (j : Fin 4) : Memref sig .tc .vmem S256x1024 .bf16 := pM.slice (rowR j) (fun _ => rfl)
/-- row block `j` of the result's buffer; -/
abbrev oRow (j : Fin 4) : Memref sig .tc .vmem S256x1024 .bf16 := oM.slice (rowR j) (fun _ => rfl)
/-- slot `j` of the landing buffer, as a 256x1024 array. -/
abbrev slot (j : Fin 4) : Memref sig .tc .vmem S256x1024 .bf16 :=
  (bM.slice (slotR j) (fun _ => rfl)).squeeze S256x1024 squeezes_S1x256x1024_S256x1024

theorem pRow_set (j : Fin 4) : (pRow j).view.set = (rowR j).set := View.set_slice_whole _ _
theorem oRow_set (j : Fin 4) : (oRow j).view.set = (rowR j).set := View.set_slice_whole _ _
theorem slot_set (j : Fin 4) : (slot j).view.set = (slotR j).set :=
  (View.set_reshape _ _).trans (View.set_slice_whole _ _)

theorem row_disjoint (b b' : Fin 4) (h : b ≠ b') : Disjoint (rowR b).set (rowR b').set :=
  Ring.lead_disjoint (s := S1024x1024) (0 : Fin 2) 256 (fun j : Fin 4 => ![256 * j.val, 0]) S256x1024.size row_inb
    (fun _ => rfl) rfl b b' h
theorem row_cover : Finset.univ.biUnion (fun b : Fin 4 => (rowR b).set) = Finset.univ :=
  Ring.lead_cover (s := S1024x1024) (0 : Fin 2) 256 (fun j : Fin 4 => ![256 * j.val, 0]) S256x1024.size row_inb
    (fun _ => rfl) (fun _ a ha => by fin_cases a; exacts [absurd rfl ha, rfl]) rfl
    (fun a ha => by fin_cases a; exacts [absurd rfl ha, rfl]) rfl
theorem slot_disjoint (b b' : Fin 4) (h : b ≠ b') : Disjoint (slotR b).set (slotR b').set :=
  Ring.lead_disjoint (s := S4x256x1024) (0 : Fin 3) 1 (fun j : Fin 4 => ![j.val, 0, 0]) S1x256x1024.size slot_inb
    (fun _ => (Nat.one_mul _).symm) rfl b b' h
theorem slot_cover : Finset.univ.biUnion (fun b : Fin 4 => (slotR b).set) = Finset.univ :=
  Ring.lead_cover (s := S4x256x1024) (0 : Fin 3) 1 (fun j : Fin 4 => ![j.val, 0, 0]) S1x256x1024.size slot_inb
    (fun _ => (Nat.one_mul _).symm) (fun _ a ha => by fin_cases a; exacts [absurd rfl ha, rfl, rfl]) rfl
    (fun a ha => by fin_cases a; exacts [absurd rfl ha, rfl, rfl]) rfl

/-! ## Semaphores -/

/-- The runtime's barrier semaphore of the kernel's collective id. -/
abbrev barS : Sem sig := (SemArray.scalar (sig.barrier 0 rfl) : Sems sig S_).sem

/-- Semaphore `j` of the kernel's DMA semaphore array `a`: 0 the row sends of the first phase, 1 their arrivals,
    2 the sends of the second phase, 3 their arrivals. -/
abbrev dsem (a j : Fin 4) : DmaSem sig := ⟨3 + 4 * a.val + j.val, by have := a.isLt; have := j.isLt; show _ < 19; omega⟩

/-- Index `j` of a semaphore array of four lies inside it. -/
theorem sem_inb (j : Fin 4) : ∀ a, (![j.val] : Fin 1 → Nat) a + S1.size a ≤ S4.size a := by revert j; decide

theorem sem0_eq (j : Fin 4) (off : Fin 1 → Nat) (h : ∀ a, off a + S1.size a ≤ S4.size a) (e : off = ![j.val]) :
    ((cc0_scratch3.slice (Rect.unit (s := S4) off S1.size h)).squeeze S_ squeezes_S1_S_).sem = dsem 0 j := by
  subst e
  exact (by decide +kernel : ∀ j : Fin 4, ((cc0_scratch3.slice (Rect.unit (s := S4) ![j.val] S1.size (sem_inb j))).squeeze S_ squeezes_S1_S_).sem = dsem 0 j) j
theorem sem1_eq (j : Fin 4) (off : Fin 1 → Nat) (h : ∀ a, off a + S1.size a ≤ S4.size a) (e : off = ![j.val]) :
    ((cc0_scratch4.slice (Rect.unit (s := S4) off S1.size h)).squeeze S_ squeezes_S1_S_).sem = dsem 1 j := by
  subst e
  exact (by decide +kernel : ∀ j : Fin 4, ((cc0_scratch4.slice (Rect.unit (s := S4) ![j.val] S1.size (sem_inb j))).squeeze S_ squeezes_S1_S_).sem = dsem 1 j) j
theorem sem2_eq (j : Fin 4) (off : Fin 1 → Nat) (h : ∀ a, off a + S1.size a ≤ S4.size a) (e : off = ![j.val]) :
    ((cc0_scratch5.slice (Rect.unit (s := S4) off S1.size h)).squeeze S_ squeezes_S1_S_).sem = dsem 2 j := by
  subst e
  exact (by decide +kernel : ∀ j : Fin 4, ((cc0_scratch5.slice (Rect.unit (s := S4) ![j.val] S1.size (sem_inb j))).squeeze S_ squeezes_S1_S_).sem = dsem 2 j) j
theorem sem3_eq (j : Fin 4) (off : Fin 1 → Nat) (h : ∀ a, off a + S1.size a ≤ S4.size a) (e : off = ![j.val]) :
    ((cc0_scratch6.slice (Rect.unit (s := S4) off S1.size h)).squeeze S_ squeezes_S1_S_).sem = dsem 3 j := by
  subst e
  exact (by decide +kernel : ∀ j : Fin 4, ((cc0_scratch6.slice (Rect.unit (s := S4) ![j.val] S1.size (sem_inb j))).squeeze S_ squeezes_S1_S_).sem = dsem 3 j) j

/-- The kind of a cell: the barrier, or array and index of a DMA semaphore. -/
abbrev Kd : Type := Option (Fin 4 × Fin 4)

/-- The semaphore of a kind on a core; -/
def csem : Kd → SemLoc sig
  | none => .reg barS
  | some (a, j) => .dma (dsem a j)
/-- and the kind of a semaphore, none of them for the pipeline's own. -/
def kindOf : SemLoc sig → Option Kd
  | .reg s => if s = barS then some none else none
  | .dma q => if 3 ≤ q.val then some (some (⟨(q.val - 3) / 4 % 4, Nat.mod_lt _ (by decide)⟩, ⟨(q.val - 3) % 4, Nat.mod_lt _ (by decide)⟩)) else none

theorem kindOf_csem (k : Kd) : kindOf (csem k) = some k := by
  rcases k with _ | ⟨a, j⟩
  · rfl
  · fin_cases a <;> fin_cases j <;> rfl
theorem csem_inj : Function.Injective csem := fun k k' h => by
  have := congrArg kindOf h; rw [kindOf_csem, kindOf_csem] at this; exact Option.some.inj this

/-- Device `c`'s cell of kind `k`. -/
abbrev kcell (ck : Dev nD × Kd) : GSem nD τ sig := ((ck.1 : Thread nD τ), csem ck.2)

theorem kcell_inj : Function.Injective kcell := fun a b h => by
  have h1 : a.1 = b.1 := congrArg (fun g : GSem nD τ sig => g.1.1) h
  have h2 : csem a.2 = csem b.2 := congrArg (fun g : GSem nD τ sig => g.2) h
  exact Prod.ext h1 (csem_inj h2)

/-- The credit of one block of rows. -/
abbrev N : ℕ := (oRow 0).view.dmaCredit
theorem N_pos : 0 < N := View.dmaCredit_pos _ (by decide)

/-! ## Contents -/

section Contents

variable (X : Dev nD → FVec F S1024x256 .bf16) (Y : Dev nD → FVec F S256x1024 .bf16)

/-- Device `c`'s product: its columns of the left operand by its rows of the right one. -/
def part (c : Dev nD) : FVec F S1024x1024 .bf16 := k0_pay1 (X c) (Y c)
/-- Row block `j` of device `s`'s product: what it gives device `j`. -/
def prow (s : Dev nD) (j : Fin 4) : FVec F S256x1024 .bf16 := (pRow j).view.read (Elt F) (part X Y s)

/-- Adding one received block to the accumulator. -/
def addRow (a : FVec F S256x1024 .f32) (v : FVec F S256x1024 .bf16) : FVec F S256x1024 .f32 :=
  shapeCast S256x1024 (addf a (extf .f32 v bitsLt_bf16_f32)) shapeCasts_S256x1024_S256x1024

/-- The step of the accumulation for device `j`: nothing for the own block, which is there from the start. -/
def accUp (c : Dev nD) (j : Fin 4) (a : FVec F S256x1024 .f32) : FVec F S256x1024 .f32 :=
  if c = j then a else addRow a (prow X Y j c)
/-- The accumulator after the own block and the steps for devices below `n`. -/
def accTo (c : Dev nD) : ℕ → FVec F S256x1024 .f32
  | 0 => k0_pay2 (prow X Y c c)
  | n + 1 => if h : n < 4 then accUp X Y c ⟨n, h⟩ (accTo c n) else accTo c n
/-- Device `c`'s row block of the product of the whole operands. -/
def accOf (c : Dev nD) : FVec F S256x1024 .f32 := accTo X Y c 4
/-- Device `c`'s block of the result: the activation of `accOf`. -/
def blockOut (c : Dev nD) : FVec F S256x1024 .bf16 := k0_pay8 (accOf X Y c) (k0_pay7 (accOf X Y c))

/-- Which row block an element of the result lies in, -/
def blkOf (e : S1024x1024.Idx) : Fin 4 := ⟨(e 0).val / 256, Nat.div_lt_of_lt_mul (e 0).isLt⟩
/-- and where in that block. -/
def inBlk (e : S1024x1024.Idx) : S256x1024.Idx := fun a => match a with
  | 0 => ⟨(e 0).val % 256, Nat.mod_lt _ (by decide)⟩
  | 1 => ⟨(e 1).val, (e 1).isLt⟩
/-- The array every device ends with: row block `j` is device `j`'s block. -/
def whole : FVec F S1024x1024 .bf16 := fun e => blockOut X Y (blkOf e) (inBlk e)

end Contents

end Cert.Mesh

end
-- ==== Proof.Protocol.lean ====
/-
# The protocol

For each cell: who waits, who pays, how much, and what each payment hands over. Every cell has one round.

* Barrier of device `c`: `c` waits for 3; each other device `d` pays 1, and hands over its slot `c` and its row
  block `c` of the result's buffer, which are where `c` will write on `d`.
* First-phase send `j` of `c`: `c` waits; its own copy of row block `j` to device `j` pays, and gives the row block back.
* First-phase arrival `j` on `c`: `c` waits; device `j`'s copy pays, and hands over slot `j` of `c` with row block `c` of
  device `j`'s product in it.
* Second-phase send `j` of `c`: `c` waits; its own copy to `j` pays, and gives back a quarter of the right to read row
  block `c` of the result's buffer.
* Second-phase arrival `j` on `c`: `c` waits; device `j`'s copy pays, and hands over row block `j` of the result's buffer
  of `c` with device `j`'s block of the result in it.

A device waits for its barrier before all copies, for the first-phase arrivals before the second-phase copies. So the
levels are: barrier 1, first arrivals 2, second arrivals 3, and 0 for what a device pays itself.
-/
module

public import proofs.«01_k».proof.Proof.Places

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pieces of buffers, held -/

/-- Slot `j` of device `c`'s landing buffer, -/
def slotPts (c : Dev nD) (j : Fin 4) (f : Buf (Elt F) ((slot j).view.loc (c : Thread nD τ))) : sProp 𝕄 :=
  (slot j).view.loc (c : Thread nD τ) ↦[(slot j).view.set]{fullShare} f
/-- row block `j` of its product's buffer, -/
def pPts (c : Dev nD) (j : Fin 4) (f : Buf (Elt F) ((pRow j).view.loc (c : Thread nD τ))) : sProp 𝕄 :=
  (pRow j).view.loc (c : Thread nD τ) ↦[(pRow j).view.set]{fullShare} f
/-- row block `j` of its result's buffer, at a share. -/
def oPts (c : Dev nD) (j : Fin 4) (q : PosShare TreeShare) (f : Buf (Elt F) ((oRow j).view.loc (c : Thread nD τ))) : sProp 𝕄 :=
  (oRow j).view.loc (c : Thread nD τ) ↦[(oRow j).view.set]{q} f

omit [FloatOps F] in
instance slotPts_storable (c : Dev nD) (j : Fin 4) (f) : BI.Storable (upEmb : UEmb _ 𝕄) (slotPts (F := F) c j f) := by
  unfold slotPts; infer_instance
omit [FloatOps F] in
instance pPts_storable (c : Dev nD) (j : Fin 4) (f) : BI.Storable (upEmb : UEmb _ 𝕄) (pPts (F := F) c j f) := by
  unfold pPts; infer_instance
omit [FloatOps F] in
instance oPts_storable (c : Dev nD) (j : Fin 4) (q) (f) : BI.Storable (upEmb : UEmb _ 𝕄) (oPts (F := F) c j q f) := by
  unfold oPts; infer_instance

/-- The quarter of the full share that goes out with the copy to device `j`. -/
def qtr (j : Fin 4) : PosShare TreeShare := Transfers.dealOf fullShare Finset.univ j

variable (X : Dev nD → FVec F S1024x256 .bf16) (Y : Dev nD → FVec F S256x1024 .bf16)

/-! ## The schedule -/

/-- What device `d`'s signal hands device `c`: where `c` writes on `d`. -/
def barPay (d c : Dev nD) : sProp 𝕄 := iprop((∃ f, slotPts d c f) ∗ ∃ f, oPts d c fullShare f)
/-- What the copies hand over on arrival or on leaving, by array and index. -/
def dmaPay (c : Dev nD) (a j : Fin 4) : sProp 𝕄 := match a with
  | 0 => pPts c j (part X Y c)
  | 1 => iprop(∃ f, ⌜(slot j).view.read (Elt F) f = prow X Y j c⌝ ∗ slotPts c j f)
  | 2 => oPts c c (qtr j) (whole X Y)
  | 3 => oPts c j fullShare (whole X Y)
def pay (c : Dev nD) (k : Kd) (d : Dev nD) : sProp 𝕄 := match k with
  | none => barPay d c
  | some (a, j) => dmaPay X Y c a j

instance pay_storable (c : Dev nD) (k : Kd) (d : Dev nD) : BI.Storable (upEmb : UEmb _ 𝕄) (pay (F := F) X Y c k d) := by
  rcases k with _ | ⟨a, j⟩
  · show BI.Storable upEmb (barPay d c); unfold barPay; infer_instance
  · show BI.Storable upEmb (dmaPay X Y c a j)
    match a with
    | 0 => show BI.Storable upEmb (pPts c j (part X Y c)); infer_instance
    | 1 => show BI.Storable upEmb iprop(∃ f, ⌜(slot j).view.read (Elt F) f = prow X Y j c⌝ ∗ slotPts c j f); infer_instance
    | 2 => show BI.Storable upEmb (oPts c c (qtr j) (whole X Y)); infer_instance
    | 3 => show BI.Storable upEmb (oPts c j fullShare (whole X Y)); infer_instance

/-- The duties of device `c`'s cell of a kind: the other devices pay the barrier; the one payer of copy `j` is named
    `j`, and there is no copy from a device to itself. -/
def dutiesOf (c : Dev nD) : Kd → Finset (Dev nD)
  | none => Finset.univ.erase c
  | some (_, j) => ({j} : Finset (Dev nD)).erase c
def amountOf : Kd → ℕ
  | none => 1
  | some _ => N
theorem amountOf_pos (k : Kd) : 0 < amountOf k := by
  rcases k with _ | _
  · exact Nat.one_pos
  · exact N_pos

def sched : Rounds.Schedule (GSem nD τ sig) (Dev nD) 𝕄 where
  duties g r := if r = 0 ∧ g.1.2 = .tc then (match kindOf g.2 with | some k => dutiesOf g.1.1 k | none => ∅) else ∅
  unitless _ := False
  amount g _ _ := match kindOf g.2 with | some k => amountOf k | none => 1
  payload g _ d := match kindOf g.2 with | some k => pay X Y g.1.1 k d | none => iprop(emp)
  amount_pos g _ _ _ := by
    rcases kindOf g.2 with _ | k
    · exact Nat.one_pos
    · exact amountOf_pos k

instance sched_payload_storable (g : GSem nD τ sig) (r : ℕ) (d : Dev nD) :
    BI.Storable (upEmb : UEmb _ 𝕄) ((sched (F := F) X Y).payload g r d) := by
  show BI.Storable upEmb (match kindOf g.2 with | some k => pay X Y g.1.1 k d | none => iprop(emp))
  rcases kindOf g.2 with _ | k <;> infer_instance

theorem duties_cell (c : Dev nD) (k : Kd) : (sched (F := F) X Y).duties (kcell (c, k)) 0 = dutiesOf c k := by
  show (if (0 : ℕ) = 0 ∧ (c : Thread nD τ).2 = .tc then (match kindOf (csem k) with | some k => dutiesOf c k | none => ∅) else ∅) = _
  rw [if_pos ⟨rfl, rfl⟩, kindOf_csem]
theorem duties_later (g : GSem nD τ sig) : ∀ r, 1 ≤ r → (sched (F := F) X Y).duties g r = ∅ :=
  fun r hr => if_neg fun h => by omega
theorem duties_own (c : Dev nD) (a : Fin 4) : ∀ r, (sched (F := F) X Y).duties (kcell (c, some (a, c))) r = ∅ := fun r => by
  rcases Nat.eq_zero_or_pos r with rfl | h
  · rw [duties_cell]; exact (by decide : ∀ c : Fin 4, ({c} : Finset (Fin 4)).erase c = ∅) c
  · exact duties_later X Y _ r h
theorem amount_cell (c : Dev nD) (k : Kd) (r : ℕ) (d : Dev nD) : (sched (F := F) X Y).amount (kcell (c, k)) r d = amountOf k := by
  show (match kindOf (csem k) with | some k => amountOf k | none => 1) = _
  rw [kindOf_csem]
theorem payload_cell (c : Dev nD) (k : Kd) (r : ℕ) (d : Dev nD) : (sched (F := F) X Y).payload (kcell (c, k)) r d = pay X Y c k d := by
  show (match kindOf (csem k) with | some k => pay X Y c k d | none => iprop(emp)) = _
  rw [kindOf_csem]
theorem expect_cell (c : Dev nD) (k : Kd) : (sched (F := F) X Y).expect (kcell (c, k)) 0 = (dutiesOf c k).card * amountOf k := by
  unfold Schedule.expect Schedule.amountOf
  rw [duties_cell, Finset.sum_congr rfl fun d _ => amount_cell X Y c k 0 d, Finset.sum_const, smul_eq_mul]
theorem expect_dma (c : Dev nD) (a j : Fin 4) (h : c ≠ j) : (sched (F := F) X Y).expect (kcell (c, some (a, j))) 0 = N := by
  rw [expect_cell, show (dutiesOf c (some (a, j))).card = 1 from (by decide : ∀ c j : Fin 4, c ≠ j → (({j} : Finset (Fin 4)).erase c).card = 1) c j h]
  exact Nat.one_mul _
theorem expect_bar (c : Dev nD) : (sched (F := F) X Y).expect (kcell (c, none)) 0 = 3 := by
  rw [expect_cell, show (dutiesOf c none).card = 3 from (by decide : ∀ c : Fin 4, ((Finset.univ : Finset (Fin 4)).erase c).card = 3) c]
  rfl
theorem mem_bar (c d : Dev nD) (h : d ≠ c) : d ∈ (sched (F := F) X Y).duties (kcell (c, none)) 0 := by
  rw [duties_cell]; exact Finset.mem_erase.mpr ⟨h, Finset.mem_univ _⟩
theorem mem_dma (c : Dev nD) (a j : Fin 4) (h : c ≠ j) : j ∈ (sched (F := F) X Y).duties (kcell (c, some (a, j))) 0 := by
  rw [duties_cell]; exact Finset.mem_erase.mpr ⟨fun e => h e.symm, Finset.mem_singleton_self _⟩

/-- The rest of a copy's round: its one payload. -/
theorem rest_dma (c : Dev nD) (a j : Fin 4) (h : c ≠ j) :
    bigSep ((sched (F := F) X Y).duties (kcell (c, some (a, j))) 0 \ ∅) (fun d => (sched (F := F) X Y).payload (kcell (c, some (a, j))) 0 d)
      = dmaPay X Y c a j := by
  rw [Finset.sdiff_empty, duties_cell,
    show dutiesOf c (some (a, j)) = {j} from (by decide : ∀ c j : Fin 4, c ≠ j → ({j} : Finset (Fin 4)).erase c = {j}) c j h,
    bigSep_singleton, payload_cell]
  rfl
/-- The rest of the barrier's round: what every other device hands over. -/
theorem rest_bar (c : Dev nD) :
    bigSep ((sched (F := F) X Y).duties (kcell (c, none)) 0 \ ∅) (fun d => (sched (F := F) X Y).payload (kcell (c, none)) 0 d)
      = bigSep (Finset.univ.erase c) (fun d => barPay d c) := by
  rw [Finset.sdiff_empty, duties_cell]
  exact bigSep_congr fun d _ => payload_cell X Y c none 0 d

/-! ## What a device owes -/

/-- What a device owes: the sum of a list of tallies, the head of the list the last summand. -/
def owedL : List (CellTallies nD τ sig Unit) → CellTallies nD τ sig Unit
  | [] => 0
  | t :: ts => owedL ts + t
/-- Device `c`'s debt to device `j`'s cell of the kind `k` (none to itself). -/
def debt (c j : Dev nD) (k : Kd) : CellTallies nD τ sig Unit := if c = j then 0 else tallyAt (kcell (j, k)) () (amountOf k)
/-- Device `c`'s debts by phase: signals, first copies, second copies; -/
def bars (c : Dev nD) : List (CellTallies nD τ sig Unit) := (List.finRange 4).map fun j => debt c j none
def outs (c : Dev nD) (a : Fin 4) : List (CellTallies nD τ sig Unit) := (List.finRange 4).map fun j => debt c j (some (a, c))
/-- all of them, in the order in which they are paid. -/
def owed₀ (c : Dev nD) : CellTallies nD τ sig Unit := owedL (bars c ++ (outs c 1 ++ outs c 3))

theorem owedL_app_pos (l l' : List (CellTallies nD τ sig Unit)) {g : GSem nD τ sig} {u : Unit} (h : 0 < owedL (l ++ l') g u) :
    (∃ t ∈ l, 0 < t g u) ∨ 0 < owedL l' g u := by
  induction l with
  | nil => exact .inr h
  | cons t ts ih =>
    rw [List.cons_append, owedL, Pi.add_apply, Finsupp.add_apply] at h
    rcases Nat.pos_of_ne_zero (fun e => by omega) |> fun (_ : 0 < owedL (ts ++ l') g u + t g u) => (Nat.eq_zero_or_pos (t g u)) with h0 | h0
    · rcases ih (by omega) with ⟨t', ht', hp⟩ | hp
      · exact .inl ⟨t', List.mem_cons_of_mem _ ht', hp⟩
      · exact .inr hp
    · exact .inl ⟨t, List.mem_cons_self, h0⟩
theorem owedL_pos (l : List (CellTallies nD τ sig Unit)) {g : GSem nD τ sig} {u : Unit} (h : 0 < owedL l g u) : ∃ t ∈ l, 0 < t g u := by
  rcases owedL_app_pos l [] (by rwa [List.append_nil]) with h | h
  · exact h
  · exact absurd h (Nat.lt_irrefl 0)
theorem debt_pos {c j : Dev nD} {k : Kd} {g : GSem nD τ sig} {u : Unit} (h : 0 < debt c j k g u) : g = kcell (j, k) := by
  unfold debt at h
  split at h
  · exact absurd h (Nat.lt_irrefl 0)
  · rw [tallyAt_apply] at h
    by_contra hn
    rw [if_neg fun h' => hn h'.1] at h
    exact Nat.lt_irrefl 0 h
theorem outs_pos {c : Dev nD} {a : Fin 4} {g : GSem nD τ sig} {u : Unit} (h : ∃ t ∈ outs c a, 0 < t g u) : ∃ j, g = kcell (j, some (a, c)) := by
  obtain ⟨t, ht, hp⟩ := h
  obtain ⟨j, -, rfl⟩ := List.mem_map.mp ht
  exact ⟨j, debt_pos hp⟩
theorem bars_pos {c : Dev nD} {g : GSem nD τ sig} {u : Unit} (h : ∃ t ∈ bars c, 0 < t g u) : ∃ j, g = kcell (j, none) := by
  obtain ⟨t, ht, hp⟩ := h
  obtain ⟨j, -, rfl⟩ := List.mem_map.mp ht
  exact ⟨j, debt_pos hp⟩

/-! ## Levels -/

def L (g : GSem nD τ sig) : Finset Unit := if g.1.2 = .tc then {()} else ∅
def lvK : Kd → ℕ
  | none => 1
  | some (1, _) => 2
  | some (3, _) => 3
  | some _ => 0
theorem lvK_first (j : Fin 4) : lvK (some (1, j)) = 2 := by revert j; decide
theorem lvK_second (j : Fin 4) : lvK (some (3, j)) = 3 := by revert j; decide
def lv (g : GSem nD τ sig) (_ : Unit) : ℕ := match kindOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (kcell (c, k)) u = lvK k := by
  show (match kindOf (csem k) with | some k => lvK k | none => 0) = _
  rw [kindOf_csem]

omit [FloatOps F] in
/-- A device may wait at a cell whose level is below that of all cells it owes. -/
theorem mayWait_below (c : Dev nD) (sm : SemLoc sig) (n : ℕ) (hn : lv ((c : Thread nD τ), sm) () ≤ n) (O : CellTallies nD τ sig Unit)
    (hO : ∀ (g : GSem nD τ sig) (u : Unit), 0 < O g u → ∃ j k, g = kcell (j, k) ∧ n < lvK k) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨j, k, rfl, -⟩ := hO g u hg; rw [L_tc]; exact Finset.mem_singleton_self _)
    (fun p hp => by rw [Finset.mem_singleton.mp hp]; exact hn)
    (fun g u hg => by obtain ⟨j, k, rfl, hk⟩ := hO g u hg; rw [lv_cell]; exact hk)

omit [FloatOps F] in
/-- The barrier wait, owing the copies of both phases. -/
theorem mayWait_bar (c : Dev nD) : (levAts L lv : sProp 𝕄) ⊢ MayWait (c : Thread nD τ) (csem none) () (owedL (outs c 1 ++ outs c 3)) :=
  mayWait_below c _ 1 (le_of_eq (lv_cell c none ())) _ fun g u h => by
    rcases owedL_app_pos _ _ h with h | h
    · obtain ⟨j, rfl⟩ := outs_pos h; exact ⟨j, _, rfl, by rw [lvK_first]; decide⟩
    · obtain ⟨j, rfl⟩ := outs_pos (owedL_pos _ h); exact ⟨j, _, rfl, by rw [lvK_second]; decide⟩
omit [FloatOps F] in
/-- The wait for a first arrival, owing the second copies. -/
theorem mayWait_arr (c : Dev nD) (j : Fin 4) : (levAts L lv : sProp 𝕄) ⊢ MayWait (c : Thread nD τ) (csem (some (1, j))) () (owedL (outs c 3)) :=
  mayWait_below c _ 2 (le_of_eq (lv_cell c _ ())) _ fun g u h => by
    obtain ⟨j, rfl⟩ := outs_pos (owedL_pos _ h); exact ⟨j, _, rfl, by rw [lvK_second]; decide⟩
omit [FloatOps F] in
/-- The pipeline's waits on its staging cells, whatever of the protocol is owed. -/
theorem mayWait_stage (c : Dev nD) (q : DmaSem sig) (hq : kindOf (.dma q) = none) (O : CellTallies nD τ sig Unit) (hO : O = owed₀ c ∨ O = 0) :
    (levAts L lv : sProp 𝕄) ⊢ MayWait (c : Thread nD τ) (.dma q) () O := by
  rcases hO with rfl | rfl
  · refine mayWait_below c _ 0 (by show (match kindOf (.dma q) with | some k => lvK k | none => 0) ≤ 0; rw [hq]) _ fun g u h => ?_
    rcases owedL_app_pos _ _ h with h | h
    · obtain ⟨j, rfl⟩ := bars_pos h; exact ⟨j, _, rfl, Nat.one_pos⟩
    · rcases owedL_app_pos _ _ h with h | h
      · obtain ⟨j, rfl⟩ := outs_pos h; exact ⟨j, _, rfl, by rw [lvK_first]; decide⟩
      · obtain ⟨j, rfl⟩ := outs_pos (owedL_pos _ h); exact ⟨j, _, rfl, by rw [lvK_second]; decide⟩
  · rw [MayWait_zero]; iintro -; iempintro

end Cert.Mesh

end
-- ==== Proof.Steps.lean ====
/-
# The steps

The kernel does the same few things for each peer `j`: under the test "I am not `j`" it signals `j`, sends to `j`, or
waits for a copy from or to `j`. One lemma for each kind of step, for every device `c` and every `j`. The program text of
a step comes as the kernel prints it, an `if` with the rest of the program in both branches; offsets, semaphores and
addressed devices come as variables with equations.
-/
module

public import proofs.«01_k».proof.Proof.Protocol

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A resource that depends on whether `j` is the device itself. -/
def ife (c j : Dev nD) (A B : sProp 𝕄) : sProp 𝕄 := if c = j then A else B
theorem ife_own (c : Dev nD) (A B : sProp 𝕄) : ife c c A B = A := if_pos rfl
theorem ife_other {c j : Dev nD} (h : c ≠ j) (A B : sProp 𝕄) : ife c j A B = B := if_neg h
/-- A resource for the other devices only. -/
abbrev peer (c j : Dev nD) (A : sProp 𝕄) : sProp 𝕄 := ife c j iprop(emp) A

/-- What a device owes, whatever it has waited for. -/
def dues (c : Dev nD) (O : CellTallies nD τ sig Unit) : sProp 𝕄 := iprop(∃ W, owes (c : Thread nD τ) O W)

variable (X : Dev nD → FVec F S1024x256 .bf16) (Y : Dev nD → FVec F S256x1024 .bf16)

/-- The shared records: every cell's invariant, at the names `K`, and that every cell is at round 0. -/
def recs (K : Dev nD × Kd → ℕ) : sProp 𝕄 :=
  iprop((bigSep Finset.univ fun ck : Dev nD × Kd => cellInv ER (sched X Y) (K ck) (kcell ck))
    ∗ bigSep Finset.univ fun ck : Dev nD × Kd => reached ER (kcell ck) 0)

instance recs_persistent (K : Dev nD × Kd → ℕ) : BI.Persistent (recs (F := F) X Y K) := by unfold recs; infer_instance

theorem recs_inv (K : Dev nD × Kd → ℕ) (ck : Dev nD × Kd) : recs X Y K ⊢ cellInv ER (sched X Y) (K ck) (kcell ck) := by
  unfold recs; exact sep_elim_left.trans (bigSep_elim (Finset.mem_univ ck))
theorem recs_reached (K : Dev nD × Kd → ℕ) (ck : Dev nD × Kd) : recs X Y K ⊢ reached (ER (F := F)) (kcell ck) 0 := by
  unfold recs; exact sep_elim_right.trans (bigSep_elim (Finset.mem_univ ck))

/-- The token with which `d` pays a cell. -/
abbrev tok (ck : Dev nD × Kd) (d : Dev nD) : sProp 𝕄 := dutyTok (ER (F := F)) (kcell ck) 0 d
/-- The owner's place at a cell: nothing waited for yet. -/
abbrev pos₀ (ck : Dev nD × Kd) : sProp 𝕄 := atPos (ER (F := F)) (kcell ck) 0 ∅ 0
/-- The right to wait for a copy. -/
abbrev crd (ck : Dev nD × Kd) (n : ℕ) : sProp 𝕄 := cred (tallyAt (kcell ck) () n)

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {X Y}

section Steps

variable (K : Dev nD × Kd → ℕ) (c : Dev nD) {α : Type}
variable {Q : α → sProp (MT nD τ sig Unit (Elt F) ℕ UU ℕ)}

/-! ## The test "not myself" -/

/-- A printed `if`, its test deciding whether `j` is a peer: a peer's step is taken, else it is skipped. -/
theorem step_guard {P : Prop} [Decidable P] {j : Dev nD} (hP : P ↔ c ≠ j) {A B : sProp 𝕄} {t : P → Prog (TpuEff nD τ sig (Elt F) Λ₀ .tc) α}
    {k : PUnit → Prog (TpuEff nD τ sig (Elt F) Λ₀ .tc) α}
    (hpeer : ∀ h : P, c ≠ j → A ⊢ iprop((B -∗ wpc c (k ⟨⟩) Q) -∗ wpc c (t h) Q))
    (hown : c = j → A ⊢ iprop(|={Set.univ}=> B)) :
    A ⊢ iprop((B -∗ wpc c (k ⟨⟩) Q) -∗ wpc c (dite P t fun _ => k ⟨⟩) Q) := by
  by_cases h : P
  · rw [dif_pos h]; exact hpeer h (hP.mp h)
  · rw [dif_neg h]
    have hc : c = j := Classical.byContradiction fun hn => h (hP.mpr hn)
    iintro HA Hk
    imod (hown hc) $$ HA with HB
    iapply Hk; iexact HB

/-! ## The signal to a peer -/

theorem signal_one (j n : Dev nD) (hn : n = j) (hcj : c ≠ j) {z : Int} (hz : z = ((1 : ℕ) : Int)) (l : List (CellTallies nD τ sig Unit))
    {k : PUnit → Prog (TpuEff nD τ sig (Elt F) Λ₀ .tc) α} :
    recs X Y K ⊢ iprop(barPay c j -∗ tok (j, none) c -∗ dues c (owedL (debt c j none :: l))
      -∗ (dues c (owedL l) -∗ wpc c (k ⟨⟩) Q) -∗ wpc c (.op (.semSignal (n, .tc) barS z) k) Q) := by
  subst hn; subst hz
  iintro #HR Hpay Htok HO Hk
  unfold dues
  icases HO with ⟨%W, HO⟩
  iapply (Rounds.wp_signal 𝒱₀ ER (sched X Y) (c : Thread nD τ) none (dst := (n : Thread nD τ)) (κ := K (n, none))
    (d := c) (mem_bar X Y n c hcj) (amount_cell X Y n none 0 c) () (owedL l) (by show owedL l + debt c n none = _; rw [debt, if_neg hcj]; rfl)) $$ [Hpay Htok HO]
  · isplitr; · iapply (recs_inv X Y K (n, none)); iexact HR
    isplitl [HO]; · iexact HO
    isplitl [Htok]; · iexact Htok
    isplitl [Hpay]; · iapply (show barPay c n ⊢ (sched X Y).payload ((n : Thread nD τ), .reg barS) 0 c from Entails.of_eq (payload_cell X Y n none 0 c).symm); iexact Hpay
    iapply (recs_reached X Y K (n, none)); iexact HR
  iintro HO
  iapply Hk; iexists W; iexact HO

/-- The signal to `j`, where `j` is a peer: what `j` will write on `c` goes out, and the debt is paid. -/
theorem step_signal (j : Dev nD) {P : Prop} [Decidable P] (hP : P ↔ c ≠ j) {n : P → Dev nD} (hn : ∀ h, n h = j)
    {z : Int} (hz : z = ((1 : ℕ) : Int)) (l : List (CellTallies nD τ sig Unit))
    {k : PUnit → Prog (TpuEff nD τ sig (Elt F) Λ₀ .tc) α} :
    recs X Y K ⊢ iprop(barPay c j -∗ peer c j (tok (j, none) c) -∗ dues c (owedL (debt c j none :: l))
      -∗ ((ife c j (barPay c j) iprop(emp) ∗ dues c (owedL l)) -∗ wpc c (k ⟨⟩) Q)
      -∗ wpc c (dite P (fun h => .op (.semSignal (n h, .tc) barS z) fun r => k r) fun _ => k ⟨⟩) Q) := by
  iintro #HR Hpay Htok HO
  iapply (step_guard c hP (A := iprop(recs X Y K ∗ barPay c j ∗ peer c j (tok (j, none) c) ∗ dues c (owedL (debt c j none :: l)))) ?_ ?_) $$ [Hpay Htok HO]
  · intro h hcj
    rw [peer, ife_other hcj, ife_other hcj]
    iintro ⟨#HR, Hpay, Htok, HO⟩ Hk
    iapply (signal_one K c j (n h) (hn h) hcj hz l) $$ HR Hpay Htok HO
    iintro HO; iapply Hk
    isplitr; · iempintro
    iexact HO
  · intro hcj
    subst hcj
    rw [ife_own]
    iintro ⟨-, Hpay, -, HO⟩
    imodintro
    isplitl [Hpay]; · iexact Hpay
    rw [show owedL (debt c c none :: l) = owedL l from by show owedL l + debt c c none = _; rw [debt, if_pos rfl, add_zero]]
    iexact HO
  isplitr; · iexact HR
  isplitl [Hpay]; · iexact Hpay
  isplitl [Htok] <;> iassumption

/-! ## The barrier wait -/

theorem step_bar {z : Int} (hz : z = ((3 : ℕ) : Int)) {O : CellTallies nD τ sig Unit}
    (hmw : (levAts L lv : sProp 𝕄) ⊢ MayWait (c : Thread nD τ) (csem none) () O)
    {k : PUnit → Prog (TpuEff nD τ sig (Elt F) Λ₀ .tc) α} :
    recs X Y K ⊢ iprop(levAts L lv -∗ crd (c, none) 3 -∗ pos₀ (c, none) -∗ dues c O
      -∗ ((semVal (kcell (c, none)) 0 ∗ dues c O ∗ bigSep (Finset.univ.erase c) fun d => barPay d c) -∗ wpc c (k ⟨⟩) Q)
      -∗ wpc c (.op (.semWait barS z) k) Q) := by
  subst hz
  iintro #HR Hlev Hc Hat HO Hk
  unfold dues
  icases HO with ⟨%W, HO⟩
  iapply (Rounds.wp_wait_rest_token 𝒱₀ ER (sched X Y) (c : Thread nD τ) none (κ := K (c, none))
    (wpE_semWait_eq 𝒱₀ (c : Thread nD τ) none Set.univ) (Set.mem_univ _) () (O := O) (W := W) (R := 0) (m := 0) (T := ∅)
    ((Nat.zero_add 3).trans (expect_bar X Y c).symm)) $$ [Hlev Hc Hat HO]
  · isplitr; · iapply (recs_inv X Y K (c, none)); iexact HR
    isplitl [Hc]; · iexact Hc
    isplitl [HO]; · iexact HO
    isplitl [Hlev]; · iapply hmw; iexact Hlev
    iexact Hat
  iintro ⟨HO, Hat, -, Hpay⟩
  imod (Rounds.cell_close ER (sched X Y) (Set.mem_univ (K (c, none))) (fun h => h) (R := 0 + 1) (duties_later X Y (kcell (c, none)))) $$ [Hat] with Hz
  · isplitr; · iapply (recs_inv X Y K (c, none)); iexact HR
    iexact Hat
  iapply Hk
  isplitl [Hz]; · iexact Hz
  isplitl [HO]; · iexists _; iexact HO
  iapply (Entails.of_eq (rest_bar X Y c)); iexact Hpay

/-! ## The copy to a peer -/

theorem send_one (a b j : Fin 4) (n : Dev nD) (hn : n = j) (hcj : c ≠ j) {qS qR : DmaSem sig} (hS : qS = dsem a j) (hR : qR = dsem b c)
    {src dst src' dst' : Memref sig .tc .vmem S256x1024 .bf16} (es : src = src') (ed : dst = dst') (hN : dst'.view.amount (.dma (dsem b c)) = N)
    (q : PosShare TreeShare) (fs : Buf (Elt F) (src'.view.loc (c : Thread nD τ))) (l : List (CellTallies nD τ sig Unit))
    (hp₁ : (src'.view.loc (c : Thread nD τ) ↦[src'.view.set]{q} fs : sProp 𝕄) ⊢ dmaPay X Y c a j)
    (hp₂ : ∀ fd, (dst'.view.loc (j : Thread nD τ) ↦[dst'.view.set]{fullShare} dst'.view.write (Elt F) fd (src'.view.read (Elt F) fs) Finset.univ : sProp 𝕄)
      ⊢ dmaPay X Y j b c)
    {hsc : (dst : Memref sig (Dev.tc n : Thread nD τ).2.kind .vmem S256x1024 .bf16).view.ref.isScScratch = false}
    {hws : src.view.WordExact} {hwd : dst.view.WordExact}
    {hty : DmaTarget.Typed .vmem (.dma qR) (.remote (Dev.tc n : Thread nD τ) (dst : Memref sig (Dev.tc n : Thread nD τ).2.kind .vmem S256x1024 .bf16) (.dma qS) hsc)}
    {k : PUnit → Prog (TpuEff nD τ sig (Elt F) Λ₀ .tc) α} :
    recs X Y K ⊢ iprop((src'.view.loc (c : Thread nD τ) ↦[src'.view.set]{q} fs)
      -∗ (∃ fd, dst'.view.loc (j : Thread nD τ) ↦[dst'.view.set]{fullShare} fd)
      -∗ tok (c, some (a, j)) j -∗ tok (j, some (b, c)) c -∗ dues c (owedL (debt c j (some (b, c)) :: l))
      -∗ ((crd (c, some (a, j)) N ∗ dues c (owedL l)) -∗ wpc c (k ⟨⟩) Q)
      -∗ wpc c (.op (.enqueueDma src (.remote (Dev.tc n : Thread nD τ) dst (.dma qS) hsc) (.dma qR) hws hwd hty) k) Q) := by
  subst hn; subst hS; subst hR; subst es; subst ed
  iintro #HR Hs ⟨%fd, Hd⟩ Ht₁ Ht₂ HO Hk
  unfold dues
  icases HO with ⟨%W, HO⟩
  iapply (Rounds.wp_send_pointsTo 𝒱₀ ER (sched X Y) (c : Thread nD τ) none (κ₁ := K (c, some (a, n))) (κ₂ := K (n, some (b, c)))
    (r₁ := 0) (r₂ := 0) (d₁ := n) (d₂ := c) (fd := fd) (mem_dma X Y c a n hcj) (mem_dma X Y n b c (fun e => hcj e.symm))
    () () N hN (amount_cell X Y c (some (a, n)) 0 n) (amount_cell X Y n (some (b, c)) 0 c) (owedL l)
    (by show owedL l + debt c n (some (b, c)) = _; rw [debt, if_neg hcj]; rfl) (W := W)
    (hp₁.trans (Entails.of_eq (payload_cell X Y c (some (a, n)) 0 n).symm))
    ((hp₂ fd).trans (Entails.of_eq (payload_cell X Y n (some (b, c)) 0 c).symm))) $$ [Hs Hd Ht₁ Ht₂ HO]
  · isplitr; · iapply (recs_inv X Y K (c, some (a, n))); iexact HR
    isplitr; · iapply (recs_inv X Y K (n, some (b, c))); iexact HR
    isplitl [Hs]; · iexact Hs
    isplitl [Hd]; · iexact Hd
    isplitl [HO]; · iexact HO
    isplitl [Ht₁]; · iexact Ht₁
    isplitr; · iapply (recs_reached X Y K (c, some (a, n))); iexact HR
    isplitl [Ht₂]; · iexact Ht₂
    iapply (recs_reached X Y K (n, some (b, c))); iexact HR
  iintro ⟨Hc, HO⟩
  iapply Hk
  isplitl [Hc]; · iexact Hc
  iexists W; iexact HO

/-- A peer's copy under its test; for the device itself the source and the debt stay as they are. -/
theorem step_send (a b j : Fin 4) {P : Prop} [Decidable P] (hP : P ↔ c ≠ j) {n : P → Dev nD} (hn : ∀ h, n h = j)
    {qS qR : P → DmaSem sig} (hS : ∀ h, qS h = dsem a j) (hR : ∀ h, qR h = dsem b c)
    {src dst : P → Memref sig .tc .vmem S256x1024 .bf16} (src' dst' : Memref sig .tc .vmem S256x1024 .bf16)
    (es : ∀ h, src h = src') (ed : ∀ h, dst h = dst') (hN : dst'.view.amount (.dma (dsem b c)) = N)
    (q : PosShare TreeShare) (fs : Buf (Elt F) (src'.view.loc (c : Thread nD τ))) (l : List (CellTallies nD τ sig Unit))
    (hp₁ : (src'.view.loc (c : Thread nD τ) ↦[src'.view.set]{q} fs : sProp 𝕄) ⊢ dmaPay X Y c a j)
    (hp₂ : ∀ fd, (dst'.view.loc (j : Thread nD τ) ↦[dst'.view.set]{fullShare} dst'.view.write (Elt F) fd (src'.view.read (Elt F) fs) Finset.univ : sProp 𝕄)
      ⊢ dmaPay X Y j b c)
    {A D : sProp 𝕄} (hA : A = (src'.view.loc (c : Thread nD τ) ↦[src'.view.set]{q} fs))
    (hD : c ≠ j → D = iprop(∃ fd, dst'.view.loc (j : Thread nD τ) ↦[dst'.view.set]{fullShare} fd))
    {hsc : ∀ h, (dst h : Memref sig (Dev.tc (n h) : Thread nD τ).2.kind .vmem S256x1024 .bf16).view.ref.isScScratch = false}
    {hws : ∀ h, (src h).view.WordExact} {hwd : ∀ h, (dst h).view.WordExact}
    {hty : ∀ h, DmaTarget.Typed .vmem (.dma (qR h)) (.remote (Dev.tc (n h) : Thread nD τ) (dst h : Memref sig (Dev.tc (n h) : Thread nD τ).2.kind .vmem S256x1024 .bf16) (.dma (qS h)) (hsc h))}
    {k : PUnit → Prog (TpuEff nD τ sig (Elt F) Λ₀ .tc) α} :
    recs X Y K ⊢ iprop(A -∗ D -∗ peer c j iprop(tok (c, some (a, j)) j ∗ tok (j, some (b, c)) c) -∗ dues c (owedL (debt c j (some (b, c)) :: l))
      -∗ ((ife c j iprop(A ∗ D) (crd (c, some (a, j)) N) ∗ dues c (owedL l)) -∗ wpc c (k ⟨⟩) Q)
      -∗ wpc c (dite P (fun h => .op (.enqueueDma (src h) (.remote (Dev.tc (n h) : Thread nD τ) (dst h) (.dma (qS h)) (hsc h)) (.dma (qR h)) (hws h) (hwd h) (hty h)) fun r => k r)
          fun _ => k ⟨⟩) Q) := by
  iintro #HR Hs Hd Ht HO
  iapply (step_guard c hP (A := iprop(recs X Y K ∗ A ∗ D ∗ peer c j iprop(tok (c, some (a, j)) j ∗ tok (j, some (b, c)) c) ∗ dues c (owedL (debt c j (some (b, c)) :: l)))) ?_ ?_) $$ [Hs Hd Ht HO]
  · intro h hcj
    rw [peer, ife_other hcj, ife_other hcj, hA, hD hcj]
    iintro ⟨#HR, Hs, Hd, ⟨Ht₁, Ht₂⟩, HO⟩ Hk
    iapply (send_one K c a b j (n h) (hn h) hcj (hS h) (hR h) (es h) (ed h) hN q fs l hp₁ hp₂) $$ HR Hs Hd Ht₁ Ht₂ HO
    iexact Hk
  · intro hcj
    subst hcj
    rw [ife_own]
    iintro ⟨-, Hs, Hd, -, HO⟩
    imodintro
    isplitl [Hs Hd]; · isplitl [Hs] <;> iassumption
    rw [show owedL (debt c c (some (b, c)) :: l) = owedL l from by show owedL l + debt c c _ = _; rw [debt, if_pos rfl, add_zero]]
    iexact HO
  isplitr; · iexact HR
  isplitl [Hs]; · iexact Hs
  isplitl [Hd]; · iexact Hd
  isplitl [Ht] <;> iassumption

/-! ## The wait for a copy -/

theorem wait_one (a j : Fin 4) (hcj : c ≠ j) {qS : DmaSem sig} (hS : qS = dsem a j) {O : CellTallies nD τ sig Unit}
    (hmw : (levAts L lv : sProp 𝕄) ⊢ MayWait (c : Thread nD τ) (csem (some (a, j))) () O)
    {src dst : Memref sig .tc .vmem S256x1024 .bf16} (hN : dst.view.dmaCredit = N) {hws : src.view.WordExact} {hwd : dst.view.WordExact}
    {k : PUnit → Prog (TpuEff nD τ sig (Elt F) Λ₀ .tc) α} :
    recs X Y K ⊢ iprop(levAts L lv -∗ crd (c, some (a, j)) N -∗ pos₀ (c, some (a, j)) -∗ dues c O
      -∗ ((semVal (kcell (c, some (a, j))) 0 ∗ dues c O ∗ dmaPay X Y c a j) -∗ wpc c (k ⟨⟩) Q)
      -∗ wpc c (.op (.waitDma2 qS src dst hws hwd) k) Q) := by
  subst hS
  iintro #HR Hlev Hc Hat HO Hk
  unfold dues
  icases HO with ⟨%W, HO⟩
  iapply (Rounds.wp_wait_rest_token 𝒱₀ ER (sched X Y) (c : Thread nD τ) none (κ := K (c, some (a, j)))
    (wpE_waitDma2_eq 𝒱₀ (c : Thread nD τ) none Set.univ) (Set.mem_univ _) () (O := O) (W := W) (R := 0) (m := 0) (T := ∅)
    (((Nat.zero_add _).trans hN).trans (expect_dma X Y c a j hcj).symm)) $$ [Hlev Hc Hat HO]
  · isplitr; · iapply (recs_inv X Y K (c, some (a, j))); iexact HR
    isplitl [Hc]; · rw [hN]; iexact Hc
    isplitl [HO]; · iexact HO
    isplitl [Hlev]; · iapply hmw; iexact Hlev
    iexact Hat
  iintro ⟨HO, Hat, -, Hpay⟩
  imod (Rounds.cell_close ER (sched X Y) (Set.mem_univ (K (c, some (a, j)))) (fun h => h) (R := 0 + 1) (duties_later X Y (kcell (c, some (a, j))))) $$ [Hat] with Hz
  · isplitr; · iapply (recs_inv X Y K (c, some (a, j))); iexact HR
    iexact Hat
  iapply Hk
  isplitl [Hz]; · iexact Hz
  isplitl [HO]; · iexists _; iexact HO
  iapply (Entails.of_eq (rest_dma X Y c a j hcj)); iexact Hpay

/-- A device's cell for a copy to or from itself: no copy comes, and the cell closes at zero. -/
theorem close_own (a : Fin 4) : iprop(recs X Y K ∗ pos₀ (c, some (a, c))) ⊢ iprop(|={Set.univ}=> semVal (kcell (c, some (a, c))) 0) := by
  iintro ⟨#HR, Hat⟩
  imod (Rounds.cell_close ER (sched X Y) (Set.mem_univ (K (c, some (a, c)))) (fun h => h) (R := 0) (fun r _ => duties_own X Y c a r)) $$ [Hat] with Hz
  · isplitr; · iapply (recs_inv X Y K (c, some (a, c))); iexact HR
    iexact Hat
  imodintro; iexact Hz

/-- The wait for a peer's copy under its test. -/
theorem step_wait (a j : Fin 4) {P : Prop} [Decidable P] (hP : P ↔ c ≠ j) {qS : P → DmaSem sig} (hS : ∀ h, qS h = dsem a j)
    {O : CellTallies nD τ sig Unit} (hmw : (levAts L lv : sProp 𝕄) ⊢ MayWait (c : Thread nD τ) (csem (some (a, j))) () O)
    {src dst : P → Memref sig .tc .vmem S256x1024 .bf16} (hN : ∀ h, (dst h).view.dmaCredit = N)
    {hws : ∀ h, (src h).view.WordExact} {hwd : ∀ h, (dst h).view.WordExact}
    {k : PUnit → Prog (TpuEff nD τ sig (Elt F) Λ₀ .tc) α} :
    recs X Y K ⊢ iprop(levAts L lv -∗ peer c j (crd (c, some (a, j)) N) -∗ pos₀ (c, some (a, j)) -∗ dues c O
      -∗ ((semVal (kcell (c, some (a, j))) 0 ∗ dues c O ∗ peer c j (dmaPay X Y c a j)) -∗ wpc c (k ⟨⟩) Q)
      -∗ wpc c (dite P (fun h => .op (.waitDma2 (qS h) (src h) (dst h) (hws h) (hwd h)) fun r => k r) fun _ => k ⟨⟩) Q) := by
  iintro #HR Hlev Hc Hat HO
  iapply (step_guard c hP (A := iprop(recs X Y K ∗ levAts L lv ∗ peer c j (crd (c, some (a, j)) N) ∗ pos₀ (c, some (a, j)) ∗ dues c O)) ?_ ?_) $$ [Hlev Hc Hat HO]
  · intro h hcj
    rw [peer, peer, ife_other hcj, ife_other hcj]
    iintro ⟨#HR, Hlev, Hc, Hat, HO⟩ Hk
    iapply (wait_one K c a j hcj (hS h) hmw (hN h)) $$ HR Hlev Hc Hat HO
    iexact Hk
  · intro hcj
    subst hcj
    rw [peer, ife_own, peer, ife_own]
    iintro ⟨#HR, -, -, Hat, HO⟩
    imod (close_own K c a) $$ [Hat] with Hz
    · isplitr; · iexact HR
      iexact Hat
    imodintro
    isplitl [Hz]; · iexact Hz
    isplitl [HO]; · iexact HO
    iempintro
  isplitr; · iexact HR
  isplitl [Hlev]; · iexact Hlev
  isplitl [Hc]; · iexact Hc
  isplitl [Hat] <;> iassumption

end Steps

end Cert.Mesh

end
-- ==== Proof.Moves.lean ====
/-
# Contents on the move

What each load, store and copy does to the contents: row block `j` of a buffer that reads as device `j`'s block of the
result is held at `whole X Y`; a landed first-phase block reads as the sender's row block; a received block added to the
accumulator is `accUp`.
-/
module

public import proofs.«01_k».proof.Proof.Steps

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S1024x256 .bf16) (Y : Dev nD → FVec F S256x1024 .bf16)

/-! ## The result's buffer -/

theorem blkOf_emb (j : Fin 4) (i : S256x1024.Idx) : blkOf ((rowR j).emb i) = j := by
  have h : ((rowR j).emb i 0).val = 256 * j.val + 1 * (i 0).val := rfl
  have hi : (i 0).val < 256 := (i 0).isLt
  apply Fin.ext
  show ((rowR j).emb i 0).val / 256 = j.val
  rw [h]; omega
theorem inBlk_emb (j : Fin 4) (i : S256x1024.Idx) : inBlk ((rowR j).emb i) = i := by
  funext a
  have h : ((rowR j).emb i 0).val = 256 * j.val + 1 * (i 0).val := rfl
  have h' : ((rowR j).emb i 1).val = 0 + 1 * (i 1).val := rfl
  have hi : (i 0).val < 256 := (i 0).isLt
  match a with
  | 0 => exact Fin.ext (show ((rowR j).emb i 0).val % 256 = (i 0).val by rw [h]; omega)
  | 1 => exact Fin.ext (show ((rowR j).emb i 1).val = (i 1).val by rw [h']; omega)

/-- Row block `j` of the whole result is device `j`'s block. -/
theorem read_whole (j : Fin 4) : (oRow j).view.read (Elt F) (whole X Y) = blockOut X Y j := by
  funext i
  show blockOut X Y (blkOf ((rowR j).emb i)) (inBlk ((rowR j).emb i)) = _
  rw [blkOf_emb, inBlk_emb]

/-- A row block that reads as device `j`'s block is row block `j` of the whole result. -/
theorem oPts_whole (c : Dev nD) (j : Fin 4) (q : PosShare TreeShare) (f : Buf (Elt F) ((oRow j).view.loc (c : Thread nD τ)))
    (h : (oRow j).view.read (Elt F) f = blockOut X Y j) : oPts c j q f = oPts c j q (whole X Y) := by
  unfold oPts
  refine pointsTo_congr fun e he => ?_
  obtain ⟨i, -, rfl⟩ := Finset.mem_map.mp he
  have := congrFun (h.trans (read_whole X Y j).symm) i
  exact this

theorem write_out (c : Dev nD) (j : Fin 4) (q : PosShare TreeShare) (f : Buf (Elt F) ((oRow j).view.loc (c : Thread nD τ))) :
    oPts c j q ((oRow j).view.write (Elt F) f (blockOut X Y j) Finset.univ) = oPts c j q (whole X Y) :=
  oPts_whole X Y c j q _ (View.read_write_univ _ _)

section Prog

variable (K : Dev nD × Kd → ℕ) (c : Dev nD) {α : Type}
variable {Q : α → sProp (MT nD τ sig Unit (Elt F) ℕ UU ℕ)}

/-- The load of the device's own row block of the result's buffer, whose value is not used. -/
theorem load_out {off : Fin 2 → Nat} (e : off = ![256 * c.val, 0]) (ho : ∀ a, off a + S256x1024.size a ≤ S1024x1024.size a)
    {hl : oM.view.LoadsAt (Rect.unit (s := S1024x1024) off S256x1024.size ho).toLoadRect} (f : Buf (Elt F) ((oRow c).view.loc (c : Thread nD τ)))
    {k : Vec F S256x1024 .bf16 → Prog (TpuEff nD τ sig (Elt F) Λ₀ .tc) α} :
    oPts c c fullShare f ⊢ iprop((∀ v, oPts c c fullShare f -∗ wpc c (k v) Q)
      -∗ wpc c (.op (.load oM (Rect.unit (s := S1024x1024) off S256x1024.size ho).toLoadRect hl) k) Q) := by
  subst e
  unfold oPts
  iintro H Hk
  iapply (wp_load_rect 𝒱₀ (c : Thread nD τ) none Set.univ (m := oM) (r := rowR c) subset_rfl) $$ H
  iintro H
  iapply Hk; iexact H

/-- The store of the device's block. -/
theorem store_out {off : Fin 2 → Nat} (e : off = ![256 * c.val, 0]) (ho : ∀ a, off a + S256x1024.size a ≤ S1024x1024.size a)
    {w : FVec F S256x1024 .bf16} (hw : w = blockOut X Y c) {hx} {hm}
    (f : Buf (Elt F) ((oRow c).view.loc (c : Thread nD τ)))
    {k : PUnit → Prog (TpuEff nD τ sig (Elt F) Λ₀ .tc) α} :
    oPts c c fullShare f ⊢ iprop((oPts c c fullShare (whole X Y) -∗ wpc c (k ⟨⟩) Q)
      -∗ wpc c (.op (.store oM (Rect.unit (s := S1024x1024) off S256x1024.size ho) w Finset.univ hx hm) k) Q) := by
  subst e; subst hw
  rw [← write_out X Y c c fullShare f]
  unfold oPts
  exact wp_store 𝒱₀ (c : Thread nD τ) none Set.univ (m := oM) (r := rowR c) (Mk := Finset.univ) subset_rfl

/-- The load of the device's own row block of its product. -/
theorem load_own {off : Fin 2 → Nat} (e : off = ![256 * c.val, 0]) (ho : ∀ a, off a + S256x1024.size a ≤ S1024x1024.size a)
    {hl : pM.view.LoadsAt (Rect.unit (s := S1024x1024) off S256x1024.size ho).toLoadRect}
    {k : Vec F S256x1024 .bf16 → Prog (TpuEff nD τ sig (Elt F) Λ₀ .tc) α} :
    pPts c c (part X Y c) ⊢ iprop((pPts c c (part X Y c) -∗ wpc c (k (prow X Y c c)) Q)
      -∗ wpc c (.op (.load pM (Rect.unit (s := S1024x1024) off S256x1024.size ho).toLoadRect hl) k) Q) := by
  subst e
  unfold pPts
  exact wp_load_rect 𝒱₀ (c : Thread nD τ) none Set.univ (m := pM) (r := rowR c) subset_rfl

/-! ## Whole buffers -/

theorem zero2 : (![0, 0] : Fin 2 → Nat) = fun _ => 0 := funext fun a => by fin_cases a <;> rfl

/-- The accumulator, held at contents. -/
def aPts (a : FVec F S256x1024 .f32) : sProp 𝕄 := ((c : Thread nD τ).loc cc0_scratch1) ↦{fullShare} a

abbrev accR : Rect S256x1024 := Rect.unit ![0, 0] S256x1024.size inb_S256x1024_S256x1024_0_0

theorem load_acc (a : FVec F S256x1024 .f32) {hl : aM.view.LoadsAt accR.toLoadRect} {k : Vec F S256x1024 .f32 → Prog (TpuEff nD τ sig (Elt F) Λ₀ .tc) α} :
    aPts c a ⊢ iprop((aPts c a -∗ wpc c (k a) Q) -∗ wpc c (.op (.load aM accR.toLoadRect hl) k) Q) := by
  unfold aPts
  iintro H Hk
  iapply (wp_load 𝒱₀ (c : Thread nD τ) none Set.univ (m := aM) (Finset.subset_univ _)) $$ H
  iintro H
  rw [show aM.view.readAt (Elt F) accR.toLoadRect a = a from Memref.readAt_unit_zero (Elt F) cc0_scratch1 zero2 _ a]
  iapply Hk; iexact H

theorem store_acc (a w : FVec F S256x1024 .f32) {hx} {hm} {k : PUnit → Prog (TpuEff nD τ sig (Elt F) Λ₀ .tc) α} :
    aPts c a ⊢ iprop((aPts c w -∗ wpc c (k ⟨⟩) Q) -∗ wpc c (.op (.store aM accR w Finset.univ hx hm) k) Q) := by
  unfold aPts
  iintro H Hk
  iapply (wp_store 𝒱₀ (c : Thread nD τ) none Set.univ (m := aM) (r := accR) (Mk := Finset.univ) (Finset.subset_univ _)) $$ H
  iintro H
  rw [show (aM.access accR).write (Elt F) a w Finset.univ = w from Memref.write_access_unit_zero_univ (Elt F) cc0_scratch1 zero2 _ a w]
  iapply Hk; iexact H

/-! ## The first phase's copies -/

/-- The copy of row block `j` to device `j`: its slot `c` then reads as that row block. -/
theorem step_give (j : Fin 4) {P : Prop} [Decidable P] (hP : P ↔ c ≠ j) {n : P → Dev nD} (hn : ∀ h, n h = j)
    {qS qR : P → DmaSem sig} (hS : ∀ h, qS h = dsem 0 j) (hR : ∀ h, qR h = dsem 1 c)
    {src dst : P → Memref sig .tc .vmem S256x1024 .bf16} (es : ∀ h, src h = pRow j) (ed : ∀ h, dst h = slot c)
    (l : List (CellTallies nD τ sig Unit))
    {hsc : ∀ h, (dst h : Memref sig (Dev.tc (n h) : Thread nD τ).2.kind .vmem S256x1024 .bf16).view.ref.isScScratch = false}
    {hws : ∀ h, (src h).view.WordExact} {hwd : ∀ h, (dst h).view.WordExact}
    {hty : ∀ h, DmaTarget.Typed .vmem (.dma (qR h)) (.remote (Dev.tc (n h) : Thread nD τ) (dst h : Memref sig (Dev.tc (n h) : Thread nD τ).2.kind .vmem S256x1024 .bf16) (.dma (qS h)) (hsc h))}
    {k : PUnit → Prog (TpuEff nD τ sig (Elt F) Λ₀ .tc) α} :
    recs X Y K ⊢ iprop(pPts c j (part X Y c) -∗ (∃ f, slotPts j c f) -∗ peer c j iprop(tok (c, some (0, j)) j ∗ tok (j, some (1, c)) c)
      -∗ dues c (owedL (debt c j (some (1, c)) :: l))
      -∗ ((ife c j iprop(pPts c j (part X Y c) ∗ ∃ f, slotPts j c f) (crd (c, some (0, j)) N) ∗ dues c (owedL l)) -∗ wpc c (k ⟨⟩) Q)
      -∗ wpc c (dite P (fun h => .op (.enqueueDma (src h) (.remote (Dev.tc (n h) : Thread nD τ) (dst h) (.dma (qS h)) (hsc h)) (.dma (qR h)) (hws h) (hwd h) (hty h)) fun r => k r)
          fun _ => k ⟨⟩) Q) :=
  step_send K c 0 1 j hP hn hS hR (pRow j) (slot c) es ed rfl fullShare (part X Y c) l (BI.Entails.refl _)
    (fun fd => by
      show _ ⊢ iprop(∃ f, ⌜(slot c).view.read (Elt F) f = prow X Y c j⌝ ∗ slotPts j c f)
      unfold slotPts
      iintro H
      iexists ((slot c).view.write (Elt F) fd ((pRow j).view.read (Elt F) (part X Y c)) Finset.univ)
      isplitr; · ipureintro; exact View.read_write_univ _ _
      iexact H)
    rfl (fun _ => rfl)

/-! ## The second phase's copies -/

/-- The copy of the device's block to device `j`: its row block `c` is then that of the whole result. -/
theorem step_share (j : Fin 4) {P : Prop} [Decidable P] (hP : P ↔ c ≠ j) {n : P → Dev nD} (hn : ∀ h, n h = j)
    {qS qR : P → DmaSem sig} (hS : ∀ h, qS h = dsem 2 j) (hR : ∀ h, qR h = dsem 3 c)
    {src dst : P → Memref sig .tc .vmem S256x1024 .bf16} (es : ∀ h, src h = oRow c) (ed : ∀ h, dst h = oRow c)
    (l : List (CellTallies nD τ sig Unit))
    {hsc : ∀ h, (dst h : Memref sig (Dev.tc (n h) : Thread nD τ).2.kind .vmem S256x1024 .bf16).view.ref.isScScratch = false}
    {hws : ∀ h, (src h).view.WordExact} {hwd : ∀ h, (dst h).view.WordExact}
    {hty : ∀ h, DmaTarget.Typed .vmem (.dma (qR h)) (.remote (Dev.tc (n h) : Thread nD τ) (dst h : Memref sig (Dev.tc (n h) : Thread nD τ).2.kind .vmem S256x1024 .bf16) (.dma (qS h)) (hsc h))}
    {k : PUnit → Prog (TpuEff nD τ sig (Elt F) Λ₀ .tc) α} :
    recs X Y K ⊢ iprop(oPts c c (qtr j) (whole X Y) -∗ peer c j iprop(∃ f, oPts j c fullShare f)
      -∗ peer c j iprop(tok (c, some (2, j)) j ∗ tok (j, some (3, c)) c)
      -∗ dues c (owedL (debt c j (some (3, c)) :: l))
      -∗ ((ife c j iprop(oPts c c (qtr j) (whole X Y) ∗ peer c j iprop(∃ f, oPts j c fullShare f)) (crd (c, some (2, j)) N) ∗ dues c (owedL l)) -∗ wpc c (k ⟨⟩) Q)
      -∗ wpc c (dite P (fun h => .op (.enqueueDma (src h) (.remote (Dev.tc (n h) : Thread nD τ) (dst h) (.dma (qS h)) (hsc h)) (.dma (qR h)) (hws h) (hwd h) (hty h)) fun r => k r)
          fun _ => k ⟨⟩) Q) :=
  step_send K c 2 3 j hP hn hS hR (oRow c) (oRow c) es ed rfl (qtr j) (whole X Y) l (BI.Entails.refl _)
    (fun fd => by
      show oPts j c fullShare _ ⊢ oPts j c fullShare (whole X Y)
      rw [read_whole, write_out])
    rfl (fun h => ife_other h _ _)

/-! ## A received block -/

/-- The wait for device `j`'s row block and its addition to the accumulator. -/
theorem step_gather (j : Fin 4) {P : Prop} [Decidable P] (hP : P ↔ c ≠ j) {qS : P → DmaSem sig} (hS : ∀ h, qS h = dsem 1 j)
    {O : CellTallies nD τ sig Unit} (hmw : (levAts L lv : sProp 𝕄) ⊢ MayWait (c : Thread nD τ) (csem (some (1, j))) () O)
    {src dst : P → Memref sig .tc .vmem S256x1024 .bf16} (hN : ∀ h, (dst h).view.dmaCredit = N)
    {off : Fin 3 → Nat} (e : off = ![j.val, 0, 0]) (ho : ∀ a, off a + S1x256x1024.size a ≤ S4x256x1024.size a)
    {g : Vec F S256x1024 .f32 → Vec F S1x256x1024 .bf16 → FVec F S256x1024 .f32}
    (hg : ∀ a s, g a s = addRow a (shapeCast S256x1024 s shapeCasts_S1x256x1024_S256x1024))
    {hws : ∀ h, (src h).view.WordExact} {hwd : ∀ h, (dst h).view.WordExact} {hl₁ hl₂ hl₃ : P → _} {hx : P → _} {hm : P → _}
    {k : PUnit → Prog (TpuEff nD τ sig (Elt F) Λ₀ .tc) α} (a : FVec F S256x1024 .f32) :
    recs X Y K ⊢ iprop(levAts L lv -∗ peer c j (crd (c, some (1, j)) N) -∗ pos₀ (c, some (1, j)) -∗ dues c O -∗ aPts c a
      -∗ ((semVal (kcell (c, some (1, j))) 0 ∗ dues c O ∗ peer c j iprop(∃ f, slotPts c j f) ∗ aPts c (accUp X Y c j a)) -∗ wpc c (k ⟨⟩) Q)
      -∗ wpc c (dite P (fun h => .op (.waitDma2 (qS h) (src h) (dst h) (hws h) (hwd h)) fun _ =>
            .op (.load aM accR.toLoadRect (hl₁ h)) fun v =>
            .op (.load bM (Rect.unit (s := S4x256x1024) off S1x256x1024.size ho).toLoadRect (hl₂ h)) fun s =>
            .op (.load aM accR.toLoadRect (hl₃ h)) fun _ =>
            .op (.store aM accR (g v s) Finset.univ (hx h) (hm h)) fun r => k r) fun _ => k ⟨⟩) Q) := by
  subst e
  iintro #HR Hlev Hc Hat HO Ha
  iapply (step_guard c hP (A := iprop(recs X Y K ∗ levAts L lv ∗ peer c j (crd (c, some (1, j)) N) ∗ pos₀ (c, some (1, j)) ∗ dues c O ∗ aPts c a)) ?_ ?_) $$ [Hlev Hc Hat HO Ha]
  · intro h hcj
    rw [peer, peer, ife_other hcj, ife_other hcj]
    iintro ⟨#HR, Hlev, Hc, Hat, HO, Ha⟩ Hk
    iapply (wait_one K c 1 j hcj (hS h) hmw (hN h)) $$ HR Hlev Hc Hat HO
    iintro ⟨Hz, HO, Hpay⟩
    ihave Hp := (show dmaPay X Y c 1 j ⊢ iprop(∃ f, ⌜(slot j).view.read (Elt F) f = prow X Y j c⌝ ∗ slotPts c j f) from BI.Entails.refl _) $$ Hpay
    icases Hp with ⟨%f, %hf, Hs⟩
    iapply (load_acc c a) $$ Ha; iintro Ha
    unfold slotPts
    iapply (wp_load_rect 𝒱₀ (c : Thread nD τ) none Set.univ (m := bM) (r := slotR j) (by rw [slot_set, View.set_slice_whole])) $$ Hs
    iintro Hs
    iapply (load_acc c a) $$ Ha; iintro Ha
    iapply (store_acc c a) $$ Ha; iintro Ha
    iapply Hk
    isplitl [Hz]; · iexact Hz
    isplitl [HO]; · iexact HO
    isplitl [Hs]; · iexists f; iexact Hs
    rw [accUp, if_neg hcj, hg, ← hf]
    iexact Ha
  · intro hcj
    subst hcj
    rw [peer, peer, ife_own, ife_own, accUp, if_pos rfl]
    iintro ⟨#HR, -, -, Hat, HO, Ha⟩
    imod (close_own K c 1) $$ [Hat] with Hz
    · isplitr; · iexact HR
      iexact Hat
    imodintro
    isplitl [Hz]; · iexact Hz
    isplitl [HO]; · iexact HO
    isplitr; · iempintro
    iexact Ha
  isplitr; · iexact HR
  isplitl [Hlev]; · iexact Hlev
  isplitl [Hc]; · iexact Hc
  isplitl [Hat]; · iexact Hat
  isplitl [HO] <;> iassumption

end Prog

end Cert.Mesh

end
-- ==== Proof.Body1.lean ====
/-
# The body's first part: the handshake, the product, the first copy
-/
module

public import proofs.«01_k».proof.Proof.Moves

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.Sem.wp

/-! ## Four of a kind -/

/-- One resource for each device. -/
abbrev four (Φ : Fin 4 → sProp 𝕄) : sProp 𝕄 := iprop(Φ 0 ∗ Φ 1 ∗ Φ 2 ∗ Φ 3)
theorem four_eq (Φ : Fin 4 → sProp 𝕄) : bigSep Finset.univ Φ = four Φ := by
  rw [bigSep_univ_eq_bigSepL [0, 1, 2, 3] (by decide) (by decide), bigSepL_cons_cons, bigSepL_cons_cons, bigSepL_cons_cons, bigSepL_singleton]
  rfl

theorem bigSep_ife (c : Dev nD) (A B : Fin 4 → sProp 𝕄) :
    bigSep Finset.univ (fun j => ife c j (A j) (B j)) = iprop(A c ∗ bigSep (Finset.univ.erase c) B) := by
  rw [bigSep_erase (Finset.mem_univ c), ife_own]
  congr 1
  exact bigSep_congr fun j hj => ife_other (fun e => (Finset.mem_erase.mp hj).1 e.symm) _ _
theorem bigSep_peer (c : Dev nD) (B : Fin 4 → sProp 𝕄) :
    bigSep Finset.univ (fun j => peer c j (B j)) = bigSep (Finset.univ.erase c) B := by
  rw [bigSep_ife c (fun _ => iprop(emp)) B]
  exact equiv_iff.mp ⟨(sep_comm.1).trans (sep_emp (PROP := sProp 𝕄)).1, (sep_emp (PROP := sProp 𝕄)).2.trans sep_comm.1⟩
/-- Own and peers' parts, taken apart; -/
theorem four_ife (c : Dev nD) (A B : Fin 4 → sProp 𝕄) :
    four (fun j => ife c j (A j) (B j)) = iprop(A c ∗ four fun j => peer c j (B j)) := by
  rw [← four_eq, ← four_eq, bigSep_ife, bigSep_peer]
/-- and the own part beside the peers': all four. -/
theorem four_peer (c : Dev nD) (A : Fin 4 → sProp 𝕄) : four A = iprop(A c ∗ four fun j => peer c j (A j)) := by
  rw [← four_ife c A A]
  have h : (fun j => ife c j (A j) (A j)) = A := funext fun j => by unfold ife; split <;> rfl
  rw [h]

/-! ## The tests -/

/-- The device's place on the axis, as the kernel computes it. -/
abbrev vOf (c : Dev nD) : BitVec 32 := Scalar.remsi (Scalar.divsi (Dev.word c) 1#32) 4#32

/-- The kernel's test that the device's place is not `w`. -/
abbrev test (c : Dev nD) (w : BitVec 32) : Prop :=
  Scalar.cmpi .ne (Scalar.extui (Scalar.cmpi .ne (vOf c) w) : BitVec 32) 0#32 = 1#1
/-- It holds where device `j` is a peer. -/
theorem test_iff (c j : Fin 4) : test c (BitVec.ofNat 32 j.val) ↔ c ≠ j := by
  revert c j; decide +kernel

variable (X : Dev nD → FVec F S1024x256 .bf16) (Y : Dev nD → FVec F S256x1024 .bf16)

theorem bars_eq (c : Dev nD) : bars c = [debt c 0 none, debt c 1 none, debt c 2 none, debt c 3 none] := rfl
theorem outs_eq (c : Dev nD) (a : Fin 4) :
    outs c a = [debt c 0 (some (a, c)), debt c 1 (some (a, c)), debt c 2 (some (a, c)), debt c 3 (some (a, c))] := rfl

/-- The staged operands. -/
def xPts (c : Dev nD) : sProp 𝕄 := ((c : Thread nD τ).loc cc0_stg0_0) ↦{fullShare} (X c)
def yPts (c : Dev nD) : sProp 𝕄 := ((c : Thread nD τ).loc cc0_stg1_0) ↦{fullShare} (Y c)

/-- Row block `j` and the slot it goes to, before its copy; the right to wait, after it. -/
abbrev gave (c j : Dev nD) : sProp 𝕄 := ife c j iprop(pPts c j (part X Y c) ∗ ∃ f, slotPts j c f) (crd (c, some (0, j)) N)
/-- The two tokens of a copy. -/
abbrev toks (a b : Fin 4) (c j : Dev nD) : sProp 𝕄 := peer c j iprop(tok (c, some (a, j)) j ∗ tok (j, some (b, c)) c)

theorem slot_eq (j : Fin 4) (off : Fin 3 → Nat) (h : ∀ a, off a + S1x256x1024.size a ≤ S4x256x1024.size a) (e : off = ![j.val, 0, 0]) :
    (bM.slice (Rect.unit (s := S4x256x1024) off S1x256x1024.size h) (fun _ => rfl)).squeeze S256x1024 squeezes_S1x256x1024_S256x1024 = slot j := by
  subst e; rfl
theorem oRow_eq (j : Fin 4) (off : Fin 2 → Nat) (h : ∀ a, off a + S256x1024.size a ≤ S1024x1024.size a) (e : off = ![256 * j.val, 0]) :
    oM.slice (Rect.unit (s := S1024x1024) off S256x1024.size h) (fun _ => rfl) = oRow j := by
  subst e; rfl

/-- What every peer handed over at the barrier beside what the device kept of its own: slot `c` and row block `c` on all four. -/
theorem bar_join (c : Dev nD) :
    iprop((four fun j => ife c j (barPay c j) iprop(emp)) ∗ bigSep (Finset.univ.erase c) fun d => barPay d c)
      ⊢ iprop((four fun j => iprop(∃ f, slotPts (F := F) j c f)) ∗ four fun j => iprop(∃ f, oPts (F := F) j c fullShare f)) := by
  rw [← four_eq, ← four_eq, ← four_eq, bigSep_ife, ← bigSep_sep', bigSep_erase (Finset.mem_univ c)]
  refine BIBase.Entails.trans ?_ (show iprop(barPay c c ∗ bigSep (Finset.univ.erase c) fun d => barPay d c) ⊢ _ from .rfl)
  iintro ⟨⟨Ho, -⟩, Hp⟩
  isplitl [Ho]; · iexact Ho
  iexact Hp

theorem rows_split (c : Dev nD) (f : Buf (Elt F) ((c : Thread nD τ).loc cc0_scratch0)) :
    (((c : Thread nD τ).loc cc0_scratch0) ↦{fullShare} f : sProp 𝕄) = four fun j => pPts c j f := by
  rw [← four_eq]
  unfold pPts
  rw [Ring.pointsTo_blocks (ℓ := (c : Thread nD τ).loc cc0_scratch0) (fun j : Fin 4 => (pRow j).view.set)
    (fun b b' h => by rw [pRow_set, pRow_set]; exact row_disjoint b b' h)
    ((Finset.biUnion_congr rfl fun b _ => pRow_set b).trans row_cover) f]

section Part

variable (K : Dev nD × Kd → ℕ) (c : Dev nD)
variable {Q : (Σ' (d0 : Dev nD) (v2 : BitVec 32), BitVec 32) → sProp (MT nD τ sig Unit (Elt F) ℕ UU ℕ)}

omit X Y K in
theorem step_device {α : Type} {k : Dev nD → Prog (TpuEff nD τ sig (Elt F) Λ₀ .tc) α} {Q : α → sProp (MT nD τ sig Unit (Elt F) ℕ UU ℕ)} :
    wpc c (k c) Q ⊢ wpc c (.op .deviceId k) Q := by
  exact Entails.of_eq (wp_deviceId ..).symm

omit X Y K in
theorem step_ret {α : Type} {a : α} {Q : α → sProp (MT nD τ sig Unit (Elt F) ℕ UU ℕ)} : Q a ⊢ wpc c (.ret a) Q := by
  unfold wpc
  rw [wp_ret]
  iintro H
  imodintro
  iexact H

theorem load_x {α : Type} {Q : α → sProp (MT nD τ sig Unit (Elt F) ℕ UU ℕ)}
    {hl : xM.view.LoadsAt (Rect.unit (s := S1024x256) ![0, 0] S1024x256.size inb_S1024x256_S1024x256_0_0).toLoadRect}
    {k : Vec F S1024x256 .bf16 → Prog (TpuEff nD τ sig (Elt F) Λ₀ .tc) α} :
    xPts X c ⊢ iprop((xPts X c -∗ wpc c (k (X c)) Q) -∗ wpc c (.op (.load xM (Rect.unit (s := S1024x256) ![0, 0] S1024x256.size inb_S1024x256_S1024x256_0_0).toLoadRect hl) k) Q) := by
  unfold xPts
  iintro H Hk
  iapply (wp_load 𝒱₀ (c : Thread nD τ) none Set.univ (m := xM) (Finset.subset_univ _)) $$ H
  iintro H
  rw [show xM.view.readAt (Elt F) (Rect.unit (s := S1024x256) ![0, 0] S1024x256.size inb_S1024x256_S1024x256_0_0).toLoadRect (X c) = X c from
    Memref.readAt_unit_zero (Elt F) cc0_stg0_0 zero2 _ (X c)]
  iapply Hk; iexact H
theorem load_y {α : Type} {Q : α → sProp (MT nD τ sig Unit (Elt F) ℕ UU ℕ)}
    {hl : yM.view.LoadsAt (Rect.unit (s := S256x1024) ![0, 0] S256x1024.size inb_S256x1024_S256x1024_0_0).toLoadRect}
    {k : Vec F S256x1024 .bf16 → Prog (TpuEff nD τ sig (Elt F) Λ₀ .tc) α} :
    yPts Y c ⊢ iprop((yPts Y c -∗ wpc c (k (Y c)) Q) -∗ wpc c (.op (.load yM (Rect.unit (s := S256x1024) ![0, 0] S256x1024.size inb_S256x1024_S256x1024_0_0).toLoadRect hl) k) Q) := by
  unfold yPts
  iintro H Hk
  iapply (wp_load 𝒱₀ (c : Thread nD τ) none Set.univ (m := yM) (Finset.subset_univ _)) $$ H
  iintro H
  rw [show yM.view.readAt (Elt F) (Rect.unit (s := S256x1024) ![0, 0] S256x1024.size inb_S256x1024_S256x1024_0_0).toLoadRect (Y c) = Y c from
    Memref.readAt_unit_zero (Elt F) cc0_stg1_0 zero2 _ (Y c)]
  iapply Hk; iexact H

abbrev allR : Rect S1024x1024 := Rect.unit ![0, 0] S1024x1024.size inb_S1024x1024_S1024x1024_0_0
/-- The whole-buffer load of the product's buffer, whose value is not used; -/
theorem load_p (f : FVec F S1024x1024 .bf16) {α : Type} {Q : α → sProp (MT nD τ sig Unit (Elt F) ℕ UU ℕ)} {hl : pM.view.LoadsAt allR.toLoadRect}
    {k : Vec F S1024x1024 .bf16 → Prog (TpuEff nD τ sig (Elt F) Λ₀ .tc) α} :
    (((c : Thread nD τ).loc cc0_scratch0) ↦{fullShare} f : sProp 𝕄)
      ⊢ iprop((∀ v, (((c : Thread nD τ).loc cc0_scratch0) ↦{fullShare} f) -∗ wpc c (k v) Q) -∗ wpc c (.op (.load pM allR.toLoadRect hl) k) Q) := by
  iintro H Hk
  iapply (wp_load 𝒱₀ (c : Thread nD τ) none Set.univ (m := pM) (Finset.subset_univ _)) $$ H
  iintro H
  iapply Hk; iexact H
/-- and the store of the product over it. -/
theorem store_p (f : FVec F S1024x1024 .bf16) {α : Type} {Q : α → sProp (MT nD τ sig Unit (Elt F) ℕ UU ℕ)} {hx} {hm}
    {k : PUnit → Prog (TpuEff nD τ sig (Elt F) Λ₀ .tc) α} :
    (((c : Thread nD τ).loc cc0_scratch0) ↦{fullShare} f : sProp 𝕄)
      ⊢ iprop(((four fun j => pPts c j (part X Y c)) -∗ wpc c (k ⟨⟩) Q)
        -∗ wpc c (.op (.store pM allR (k0_pay1 (X c) (Y c)) Finset.univ hx hm) k) Q) := by
  rw [← rows_split]
  iintro H Hk
  iapply (wp_store 𝒱₀ (c : Thread nD τ) none Set.univ (m := pM) (r := allR) (Mk := Finset.univ) (Finset.subset_univ _)) $$ H
  iintro H
  rw [show (pM.access allR).write (Elt F) f (k0_pay1 (X c) (Y c)) Finset.univ = part X Y c from
    Memref.write_access_unit_zero_univ (Elt F) cc0_scratch0 zero2 _ f (k0_pay1 (X c) (Y c))]
  iapply Hk; iexact H

set_option maxHeartbeats 800000 in
theorem part1 {h0} {h1} {h2} {h3} {h4} {h5} :
    recs X Y K ⊢ iprop(levAts L lv -∗ xPts X c -∗ yPts Y c -∗ (∃ f, ((c : Thread nD τ).loc cc0_scratch0) ↦{fullShare} f)
      -∗ (four fun j => barPay c j) -∗ (four fun j => peer c j (tok (j, none) c)) -∗ toks 0 1 c 0
      -∗ crd (c, none) 3 -∗ pos₀ (c, none) -∗ dues c (owed₀ c)
      -∗ ((xPts X c ∗ yPts Y c ∗ semVal (kcell (c, none)) 0 ∗ gave X Y c 0
            ∗ (pPts c 1 (part X Y c) ∗ pPts c 2 (part X Y c) ∗ pPts c 3 (part X Y c))
            ∗ ((∃ f, slotPts 1 c f) ∗ (∃ f, slotPts 2 c f) ∗ ∃ f, slotPts 3 c f)
            ∗ (four fun j => iprop(∃ f, oPts j c fullShare f))
            ∗ dues c (owedL (debt c 1 (some (1, c)) :: debt c 2 (some (1, c)) :: debt c 3 (some (1, c)) :: outs c 3)))
          -∗ Q ⟨c, vOf c, Scalar.extui (Scalar.cmpi .ne (vOf c) 1#32)⟩)
      -∗ wpc c (k0_part1 xM h0 yM h1 oM h2 pM h3 aM h4 bM h5 cc0_scratch3 cc0_scratch4 cc0_scratch5 cc0_scratch6) Q) := by
  rw [k0_part1_eq_skeleton]; unfold k0_part1_skel
  dsimp -zeta only [semSignalWord, semWaitWord, Prog.lift, Prog.bind_op, Prog.bind_ret, Prog.pure_eq_ret]
  unfold owed₀
  simp only [bars_eq, outs_eq c 1, List.cons_append, List.nil_append]
  iintro #HR #Hlev Hx Hy Hp ⟨Hb0, Hb1, Hb2, Hb3⟩ ⟨Ht0, Ht1, Ht2, Ht3⟩ Hc0 HcB HatB HO Hk
  iapply (step_device c)
  iapply (step_signal (X := X) (Y := Y) K c 0 (P := k0_cond1 c = 1#1) (test_iff c 0) (fun h => Fin.ext k0_dev1_eq) rfl _) $$ HR Hb0 Ht0 HO
  iintro ⟨Hb0, HO⟩
  iapply (step_signal (X := X) (Y := Y) K c 1 (P := k0_cond2 c = 1#1) (test_iff c 1) (fun h => Fin.ext k0_dev2_eq) rfl _) $$ HR Hb1 Ht1 HO
  iintro ⟨Hb1, HO⟩
  iapply (step_signal (X := X) (Y := Y) K c 2 (P := k0_cond3 c = 1#1) (test_iff c 2) (fun h => Fin.ext k0_dev3_eq) rfl _) $$ HR Hb2 Ht2 HO
  iintro ⟨Hb2, HO⟩
  iapply (step_signal (X := X) (Y := Y) K c 3 (P := k0_cond4 c = 1#1) (test_iff c 3) (fun h => Fin.ext k0_dev4_eq) rfl _) $$ HR Hb3 Ht3 HO
  iintro ⟨Hb3, HO⟩
  iapply (step_bar (X := X) (Y := Y) K c rfl (by simpa only [outs_eq c 1, List.cons_append, List.nil_append] using mayWait_bar (F := F) c)) $$ HR Hlev HcB HatB HO
  iintro ⟨Hz, HO, Hbs⟩
  icases (bar_join (F := F) c) $$ [Hb0 Hb1 Hb2 Hb3 Hbs] with ⟨⟨Hs0, Hs1, Hs2, Hs3⟩, Hos⟩
  · isplitl [Hb0 Hb1 Hb2 Hb3]
    · isplitl [Hb0]; · iexact Hb0
      isplitl [Hb1]; · iexact Hb1
      isplitl [Hb2]; · iexact Hb2
      iexact Hb3
    iexact Hbs
  iapply (load_x X c) $$ Hx
  iintro Hx
  iapply (load_y Y c) $$ Hy
  iintro Hy
  icases Hp with ⟨%f, Hp⟩
  iapply (load_p c f) $$ Hp
  iintro %v Hp
  iapply (store_p X Y c f) $$ Hp
  iintro Hp
  icases Hp with ⟨Hp0, Hp1, Hp2, Hp3⟩
  iapply (step_give X Y K c 0 (P := k0_cond5 c = 1#1) (test_iff c 0) (fun h => Fin.ext k0_dev5_eq) (fun h => sem0_eq 0 _ _ rfl) (fun h => sem1_eq c _ _ (k0_off1_eq c))
    (fun h => rfl) (fun h => slot_eq c _ _ (k0_off2_eq c)) _) $$ HR Hp0 Hs0 Hc0 HO
  iintro ⟨Hg0, HO⟩
  iapply (step_ret c)
  iapply Hk
  isplitl [Hx]; · iexact Hx
  isplitl [Hy]; · iexact Hy
  isplitl [Hz]; · iexact Hz
  isplitl [Hg0]; · iexact Hg0
  isplitl [Hp1 Hp2 Hp3]
  · isplitl [Hp1]; · iexact Hp1
    isplitl [Hp2]; · iexact Hp2
    iexact Hp3
  isplitl [Hs1 Hs2 Hs3]
  · isplitl [Hs1]; · iexact Hs1
    isplitl [Hs2]; · iexact Hs2
    iexact Hs3
  isplitl [Hos]; · iexact Hos
  iexact HO

end Part

end Cert.Mesh

end
-- ==== Proof.Body2.lean ====
/-
# The body's second part: the other copies, and the sum over the devices
-/
module

public import proofs.«01_k».proof.Proof.Body1

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.Sem.wp

variable (X : Dev nD → FVec F S1024x256 .bf16) (Y : Dev nD → FVec F S256x1024 .bf16)
variable (K : Dev nD × Kd → ℕ) (c : Dev nD)

theorem accOf_eq : accUp X Y c 3 (accUp X Y c 2 (accUp X Y c 1 (accUp X Y c 0 (k0_pay2 (prow X Y c c))))) = accOf X Y c := rfl

/-- The load of the finished sum. -/
theorem load_sum {α : Type} {Q : α → sProp (MT nD τ sig Unit (Elt F) ℕ UU ℕ)} {hl : aM.view.LoadsAt accR.toLoadRect}
    {k : Vec F S256x1024 .f32 → Prog (TpuEff nD τ sig (Elt F) Λ₀ .tc) α} :
    aPts c (accUp X Y c 3 (accUp X Y c 2 (accUp X Y c 1 (accUp X Y c 0 (k0_pay2 (prow X Y c c))))))
      ⊢ iprop((aPts c (accOf X Y c) -∗ wpc c (k (accOf X Y c)) Q) -∗ wpc c (.op (.load aM accR.toLoadRect hl) k) Q) := by
  rw [accOf_eq]
  exact load_acc c (accOf X Y c)

/-- Of the four row blocks, each given away or kept: the kept one, and the rights to wait for the others. -/
theorem gave_own : (four fun j => gave X Y c j)
    ⊢ iprop(pPts c c (part X Y c) ∗ (∃ f, slotPts (F := F) c c f) ∗ four fun j => peer c j (crd (c, some (0, j)) N)) := by
  unfold gave
  rw [four_ife c (fun j => iprop(pPts c j (part X Y c) ∗ ∃ f, slotPts j c f)) (fun j => crd (c, some (0, j)) N)]
  iintro ⟨⟨Hp, Hs⟩, Hc⟩
  isplitl [Hp]; · iexact Hp
  isplitl [Hs]; · iexact Hs
  iexact Hc

variable {Q : (Σ' (v56 : Vec F S256x1024 .f32), FVec F S256x1024 .f32) → sProp (MT nD τ sig Unit (Elt F) ℕ UU ℕ)}

set_option maxHeartbeats 1600000 in
/-- The second part of the body: three more copies are sent, the device's own row block starts the sum, and every
    peer's is added as it arrives. -/
theorem part2 {h0} {h1} {h2} {h3} {h4} {h5} (v29 : BitVec 32) :
    recs X Y K ⊢ iprop(levAts L lv -∗ gave X Y c 0
      -∗ (pPts c 1 (part X Y c) ∗ pPts c 2 (part X Y c) ∗ pPts c 3 (part X Y c))
      -∗ ((∃ f, slotPts 1 c f) ∗ (∃ f, slotPts 2 c f) ∗ ∃ f, slotPts 3 c f)
      -∗ (toks 0 1 c 1 ∗ toks 0 1 c 2 ∗ toks 0 1 c 3)
      -∗ (∃ f, aPts c f) -∗ (four fun j => peer c j (crd (c, some (1, j)) N)) -∗ (four fun j => pos₀ (c, some (1, j)))
      -∗ dues c (owedL (debt c 1 (some (1, c)) :: debt c 2 (some (1, c)) :: debt c 3 (some (1, c)) :: outs c 3))
      -∗ ((pPts c c (part X Y c) ∗ (∃ f, slotPts c c f) ∗ (four fun j => peer c j (crd (c, some (0, j)) N))
            ∗ (four fun j => semVal (kcell (c, some (1, j))) 0) ∗ (four fun j => peer c j iprop(∃ f, slotPts c j f))
            ∗ aPts c (accOf X Y c) ∗ dues c (owedL (outs c 3)))
          -∗ Q ⟨accOf X Y c, k0_pay7 (accOf X Y c)⟩)
      -∗ wpc c (k0_part2 xM h0 yM h1 oM h2 pM h3 aM h4 bM h5 cc0_scratch3 cc0_scratch4 cc0_scratch5 cc0_scratch6 c (vOf c) v29) Q) := by
  rw [k0_part2_eq_skeleton]; unfold k0_part2_skel
  dsimp only [Prog.lift, Prog.bind_op, Prog.bind_ret, Prog.pure_eq_ret]
  iintro #HR #Hlev Hg0 ⟨Hp1, Hp2, Hp3⟩ ⟨Hs1, Hs2, Hs3⟩ ⟨Ht1, Ht2, Ht3⟩ ⟨%f, Ha⟩ ⟨Hc0, Hc1, Hc2, Hc3⟩ ⟨Hat0, Hat1, Hat2, Hat3⟩ HO Hk
  iapply (step_give X Y K c 1 (P := k0_cond6 c = 1#1) (test_iff c 1) (fun h => Fin.ext k0_dev6_eq) (fun h => sem0_eq 1 _ _ rfl) (fun h => sem1_eq c _ _ (k0_off3_eq c))
    (fun h => rfl) (fun h => slot_eq c _ _ (k0_off4_eq c)) _) $$ HR Hp1 Hs1 Ht1 HO
  iintro ⟨Hg1, HO⟩
  iapply (step_give X Y K c 2 (P := k0_cond7 c = 1#1) (test_iff c 2) (fun h => Fin.ext k0_dev7_eq) (fun h => sem0_eq 2 _ _ rfl) (fun h => sem1_eq c _ _ (k0_off5_eq c))
    (fun h => rfl) (fun h => slot_eq c _ _ (k0_off6_eq c)) _) $$ HR Hp2 Hs2 Ht2 HO
  iintro ⟨Hg2, HO⟩
  iapply (step_give X Y K c 3 (P := k0_cond8 c = 1#1) (test_iff c 3) (fun h => Fin.ext k0_dev8_eq) (fun h => sem0_eq 3 _ _ rfl) (fun h => sem1_eq c _ _ (k0_off7_eq c))
    (fun h => rfl) (fun h => slot_eq c _ _ (k0_off8_eq c)) _) $$ HR Hp3 Hs3 Ht3 HO
  iintro ⟨Hg3, HO⟩
  icases (gave_own X Y c) $$ [Hg0 Hg1 Hg2 Hg3] with ⟨Hpc, Hsc, Hw⟩
  · isplitl [Hg0]; · iexact Hg0
    isplitl [Hg1]; · iexact Hg1
    isplitl [Hg2]; · iexact Hg2
    iexact Hg3
  iapply (load_own X Y c (k0_off9_eq c) _) $$ Hpc
  iintro Hpc
  iapply (load_acc c f) $$ Ha
  iintro Ha
  iapply (store_acc c f (k0_pay2 (prow X Y c c))) $$ Ha
  iintro Ha
  iapply (step_gather X Y K c 0 (P := test c 0#32) (dst := fun _ => slot 0) (g := k0_pay3) (test_iff c 0) (fun h => sem1_eq 0 _ _ rfl) (mayWait_arr (F := F) c 0) (fun h => rfl) rfl _ (fun _ _ => rfl) _) $$ HR Hlev Hc0 Hat0 HO Ha
  iintro ⟨Hz0, HO, Hr0, Ha⟩
  iapply (step_gather X Y K c 1 (P := test c 1#32) (dst := fun _ => slot 1) (g := k0_pay4) (test_iff c 1) (fun h => sem1_eq 1 _ _ rfl) (mayWait_arr (F := F) c 1) (fun h => rfl) rfl _ (fun _ _ => rfl) _) $$ HR Hlev Hc1 Hat1 HO Ha
  iintro ⟨Hz1, HO, Hr1, Ha⟩
  iapply (step_gather X Y K c 2 (P := test c 2#32) (dst := fun _ => slot 2) (g := k0_pay5) (test_iff c 2) (fun h => sem1_eq 2 _ _ rfl) (mayWait_arr (F := F) c 2) (fun h => rfl) rfl _ (fun _ _ => rfl) _) $$ HR Hlev Hc2 Hat2 HO Ha
  iintro ⟨Hz2, HO, Hr2, Ha⟩
  iapply (step_gather X Y K c 3 (P := test c 3#32) (dst := fun _ => slot 3) (g := k0_pay6) (test_iff c 3) (fun h => sem1_eq 3 _ _ rfl) (mayWait_arr (F := F) c 3) (fun h => rfl) rfl _ (fun _ _ => rfl) _) $$ HR Hlev Hc3 Hat3 HO Ha
  iintro ⟨Hz3, HO, Hr3, Ha⟩
  iapply (load_sum X Y c) $$ Ha
  iintro Ha
  iapply (step_ret c)
  iapply Hk
  isplitl [Hpc]; · iexact Hpc
  isplitl [Hsc]; · iexact Hsc
  isplitl [Hw]; · iexact Hw
  isplitl [Hz0 Hz1 Hz2 Hz3]
  · isplitl [Hz0]; · iexact Hz0
    isplitl [Hz1]; · iexact Hz1
    isplitl [Hz2]; · iexact Hz2
    iexact Hz3
  isplitl [Hr0 Hr1 Hr2 Hr3]
  · isplitl [Hr0]; · iexact Hr0
    isplitl [Hr1]; · iexact Hr1
    isplitl [Hr2]; · iexact Hr2
    iexact Hr3
  isplitl [Ha]; · iexact Ha
  iexact HO

end Cert.Mesh

end
-- ==== Proof.Body3.lean ====
/-
# The body's third part: the device's block of the result, and its copies
-/
module

public import proofs.«01_k».proof.Proof.Body2

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.Sem.wp

variable (X : Dev nD → FVec F S1024x256 .bf16) (Y : Dev nD → FVec F S256x1024 .bf16)
variable (K : Dev nD × Kd → ℕ) (c : Dev nD)

/-- A thread that owes nothing may wait. -/
theorem mayWait_zero (k : Kd) : (levAts L lv : sProp 𝕄) ⊢ MayWait (c : Thread nD τ) (csem k) () (owedL []) := by
  rw [show owedL [] = (0 : CellTallies nD τ sig Unit) from rfl, MayWait_zero]
  iintro -
  iempintro

/-- The device's share of its finished block and the peer's row block, before the copy to `j`; the right to wait, after it. -/
abbrev shared (j : Dev nD) : sProp 𝕄 :=
  ife c j iprop(oPts c c (qtr j) (whole X Y) ∗ peer c j iprop(∃ f, oPts j c fullShare f)) (crd (c, some (2, j)) N)

/-- A finished block in four shares, one for each device it may be read for. -/
theorem oPts_deal : oPts c c fullShare (whole X Y) = four fun j => oPts c c (qtr j) (whole X Y) := by
  rw [← four_eq]
  unfold oPts
  exact Transfers.pointsTo_deal (Finset.univ : Finset (Fin 4)) ⟨0, Finset.mem_univ 0⟩ fullShare

/-- The own share and the rights to wait for the peers'. -/
theorem shared_own : (four fun j => shared X Y c j)
    ⊢ iprop(oPts c c (qtr c) (whole X Y) ∗ four fun j => peer c j (crd (c, some (2, j)) N)) := by
  unfold shared
  rw [four_ife c (fun j => iprop(oPts c c (qtr j) (whole X Y) ∗ peer c j iprop(∃ f, oPts j c fullShare f))) (fun j => crd (c, some (2, j)) N)]
  iintro ⟨⟨Hp, -⟩, Hc⟩
  isplitl [Hp]; · iexact Hp
  iexact Hc

/-- The store of the device's block leaves it in four shares. -/
theorem store_deal {α : Type} {Q : α → sProp (MT nD τ sig Unit (Elt F) ℕ UU ℕ)} {off : Fin 2 → Nat} (e : off = ![256 * c.val, 0])
    (ho : ∀ a, off a + S256x1024.size a ≤ S1024x1024.size a) {hx} {hm} (f : Buf (Elt F) ((oRow c).view.loc (c : Thread nD τ)))
    {k : PUnit → Prog (TpuEff nD τ sig (Elt F) Λ₀ .tc) α} :
    oPts c c fullShare f ⊢ iprop(((four fun j => oPts c c (qtr j) (whole X Y)) -∗ wpc c (k ⟨⟩) Q)
      -∗ wpc c (.op (.store oM (Rect.unit (s := S1024x1024) off S256x1024.size ho) (k0_pay8 (accOf X Y c) (k0_pay7 (accOf X Y c))) Finset.univ hx hm) k) Q) := by
  rw [← oPts_deal]
  exact store_out X Y c e ho rfl f

/-- One row block for each device: the own one, and the peers'. -/
theorem rows_own (A : Fin 4 → sProp 𝕄) : four A ⊢ iprop(A c ∗ four fun j => peer c j (A j)) :=
  Entails.of_eq (four_peer c A)

variable {Q : BitVec 32 → sProp (MT nD τ sig Unit (Elt F) ℕ UU ℕ)}

set_option maxHeartbeats 1600000 in
/-- The third part of the body: the device's block is written, copied to every peer, and three copies of the first
    phase are waited for. -/
theorem part3 {h0} {h1} {h2} {h3} {h4} {h5} :
    recs X Y K ⊢ iprop(levAts L lv -∗ (four fun j => iprop(∃ f, oPts (F := F) j c fullShare f)) -∗ (four fun j => toks 2 3 c j)
      -∗ (peer c 0 (crd (c, some (0, 0)) N) ∗ peer c 1 (crd (c, some (0, 1)) N) ∗ peer c 2 (crd (c, some (0, 2)) N))
      -∗ (pos₀ (c, some (0, 0)) ∗ pos₀ (c, some (0, 1)) ∗ pos₀ (c, some (0, 2)))
      -∗ dues c (owedL (outs c 3))
      -∗ ((oPts c c (qtr c) (whole X Y) ∗ (four fun j => peer c j (crd (c, some (2, j)) N))
            ∗ (semVal (kcell (c, some (0, 0))) 0 ∗ semVal (kcell (c, some (0, 1))) 0 ∗ semVal (kcell (c, some (0, 2))) 0)
            ∗ (peer c 0 (dmaPay X Y c 0 0) ∗ peer c 1 (dmaPay X Y c 0 1) ∗ peer c 2 (dmaPay X Y c 0 2))
            ∗ dues c (owedL []))
          -∗ Q (Scalar.extui (Scalar.cmpi .ne (vOf c) 3#32)))
      -∗ wpc c (k0_part3 xM h0 yM h1 oM h2 pM h3 aM h4 bM h5 cc0_scratch3 cc0_scratch4 cc0_scratch5 cc0_scratch6 c (vOf c) (accOf X Y c) (k0_pay7 (accOf X Y c))) Q) := by
  rw [k0_part3_eq_skeleton]; unfold k0_part3_skel
  dsimp only [Prog.lift, Prog.bind_op, Prog.bind_ret, Prog.pure_eq_ret]
  rw [outs_eq]
  iintro #HR #Hlev Ho ⟨Ht0, Ht1, Ht2, Ht3⟩ ⟨Hc0, Hc1, Hc2⟩ ⟨Hat0, Hat1, Hat2⟩ HO Hk
  icases (rows_own c fun j => iprop(∃ f, oPts (F := F) j c fullShare f)) $$ Ho with ⟨⟨%f, Hown⟩, Ho0, Ho1, Ho2, Ho3⟩
  iapply (load_out c (k0_off9_eq c) _ f) $$ Hown
  iintro %v Hown
  iapply (store_deal X Y c (k0_off9_eq c) _ f) $$ Hown
  iintro ⟨Hq0, Hq1, Hq2, Hq3⟩
  iapply (step_share X Y K c 0 (P := k0_cond13 c = 1#1) (test_iff c 0) (fun h => Fin.ext k0_dev9_eq) (fun h => sem2_eq 0 _ _ rfl) (fun h => sem3_eq c _ _ (k0_off10_eq c))
    (fun h => oRow_eq c _ _ (k0_off11_eq c)) (fun h => oRow_eq c _ _ (k0_off11_eq c)) _) $$ HR Hq0 Ho0 Ht0 HO
  iintro ⟨Hg0, HO⟩
  iapply (step_share X Y K c 1 (P := k0_cond14 c = 1#1) (test_iff c 1) (fun h => Fin.ext k0_dev10_eq) (fun h => sem2_eq 1 _ _ rfl) (fun h => sem3_eq c _ _ (k0_off12_eq c))
    (fun h => oRow_eq c _ _ (k0_off13_eq c)) (fun h => oRow_eq c _ _ (k0_off13_eq c)) _) $$ HR Hq1 Ho1 Ht1 HO
  iintro ⟨Hg1, HO⟩
  iapply (step_share X Y K c 2 (P := k0_cond15 c = 1#1) (test_iff c 2) (fun h => Fin.ext k0_dev11_eq) (fun h => sem2_eq 2 _ _ rfl) (fun h => sem3_eq c _ _ (k0_off14_eq c))
    (fun h => oRow_eq c _ _ (k0_off15_eq c)) (fun h => oRow_eq c _ _ (k0_off15_eq c)) _) $$ HR Hq2 Ho2 Ht2 HO
  iintro ⟨Hg2, HO⟩
  iapply (step_share X Y K c 3 (P := k0_cond16 c = 1#1) (test_iff c 3) (fun h => Fin.ext k0_dev12_eq) (fun h => sem2_eq 3 _ _ rfl) (fun h => sem3_eq c _ _ (k0_off16_eq c))
    (fun h => oRow_eq c _ _ (k0_off17_eq c)) (fun h => oRow_eq c _ _ (k0_off17_eq c)) _) $$ HR Hq3 Ho3 Ht3 HO
  iintro ⟨Hg3, HO⟩
  icases (shared_own X Y c) $$ [Hg0 Hg1 Hg2 Hg3] with ⟨Hq, Hw⟩
  · isplitl [Hg0]; · iexact Hg0
    isplitl [Hg1]; · iexact Hg1
    isplitl [Hg2]; · iexact Hg2
    iexact Hg3
  iapply (step_wait (X := X) (Y := Y) K c 0 0 (P := k0_cond17 c = 1#1) (test_iff c 0) (fun h => sem0_eq 0 _ _ rfl) (mayWait_zero (F := F) c _) (dst := fun _ => pRow 0) (fun h => rfl)) $$ HR Hlev Hc0 Hat0 HO
  iintro ⟨Hz0, HO, Hr0⟩
  iapply (step_wait (X := X) (Y := Y) K c 0 1 (P := k0_cond18 c = 1#1) (test_iff c 1) (fun h => sem0_eq 1 _ _ rfl) (mayWait_zero (F := F) c _) (dst := fun _ => pRow 1) (fun h => rfl)) $$ HR Hlev Hc1 Hat1 HO
  iintro ⟨Hz1, HO, Hr1⟩
  iapply (step_wait (X := X) (Y := Y) K c 0 2 (P := k0_cond19 c = 1#1) (test_iff c 2) (fun h => sem0_eq 2 _ _ rfl) (mayWait_zero (F := F) c _) (dst := fun _ => pRow 2) (fun h => rfl)) $$ HR Hlev Hc2 Hat2 HO
  iintro ⟨Hz2, HO, Hr2⟩
  iapply (step_ret c)
  iapply Hk
  isplitl [Hq]; · iexact Hq
  isplitl [Hw]; · iexact Hw
  isplitl [Hz0 Hz1 Hz2]
  · isplitl [Hz0]; · iexact Hz0
    isplitl [Hz1]; · iexact Hz1
    iexact Hz2
  isplitl [Hr0 Hr1 Hr2]
  · isplitl [Hr0]; · iexact Hr0
    isplitl [Hr1]; · iexact Hr1
    iexact Hr2
  iexact HO

end Cert.Mesh

end
-- ==== Proof.Body4.lean ====
/-
# The whole body of one device
-/
module

public import proofs.«01_k».proof.Proof.Body3

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] Idealize.SL.Sem.wp

variable (X : Dev nD → FVec F S1024x256 .bf16) (Y : Dev nD → FVec F S256x1024 .bf16)
variable (K : Dev nD × Kd → ℕ) (c : Dev nD)

/-! ## The buffers whole again -/

/-- The product's row blocks, the own one and those back from the peers' copies. -/
theorem rows_join : iprop(pPts c c (part X Y c) ∗ four fun j => peer c j (dmaPay X Y c 0 j))
    ⊢ (iprop(∃ f, ((c : Thread nD τ).loc cc0_scratch0) ↦{fullShare} f) : sProp 𝕄) := by
  have h : iprop(pPts c c (part X Y c) ∗ four fun j => peer c j (dmaPay X Y c 0 j)) = four fun j => pPts c j (part X Y c) :=
    (four_peer c fun j => pPts c j (part X Y c)).symm
  rw [h, ← rows_split]
  iintro H
  iexists _
  iexact H

/-- The slots' buffer is its four slots; -/
theorem slots_split (f : Buf (Elt F) ((c : Thread nD τ).loc cc0_scratch2)) :
    (((c : Thread nD τ).loc cc0_scratch2) ↦{fullShare} f : sProp 𝕄) = four fun j => slotPts c j f := by
  rw [← four_eq]
  unfold slotPts
  rw [Ring.pointsTo_blocks (ℓ := (c : Thread nD τ).loc cc0_scratch2) (fun j : Fin 4 => (slot j).view.set)
    (fun b b' h => by rw [slot_set, slot_set]; exact slot_disjoint b b' h)
    ((Finset.biUnion_congr rfl fun b _ => slot_set b).trans slot_cover) f]

/-- and they join back, whatever each holds. -/
theorem slots_join : iprop((∃ f, slotPts (F := F) c c f) ∗ four fun j => peer c j iprop(∃ f, slotPts c j f))
    ⊢ (iprop(∃ f, ((c : Thread nD τ).loc cc0_scratch2) ↦{fullShare} f) : sProp 𝕄) := by
  have h : iprop((∃ f, slotPts (F := F) c c f) ∗ four fun j => peer c j iprop(∃ f, slotPts c j f))
      ⊢ bigSep Finset.univ fun j => iprop(∃ f, ((c : Thread nD τ).loc cc0_scratch2) ↦[(slot j).view.set]{fullShare} f) := by
    rw [four_eq]
    exact Entails.of_eq (four_peer c fun j => iprop(∃ f, slotPts (F := F) c j f)).symm
  iintro ⟨⟨%f, Hs⟩, Hp⟩
  iapply (Ring.pointsTo_blocks_join_exists (ℓ := (c : Thread nD τ).loc cc0_scratch2) (fun j : Fin 4 => (slot j).view.set)
    (fun b b' h => by rw [slot_set, slot_set]; exact slot_disjoint b b' h)
    ((Finset.biUnion_congr rfl fun b _ => slot_set b).trans slot_cover) f)
  iapply h
  isplitl [Hs]; · iexists f; iexact Hs
  iexact Hp

/-- The result's buffer is its four row blocks. -/
theorem out_split (f : Buf (Elt F) ((c : Thread nD τ).loc cc0_stg2_0)) :
    (((c : Thread nD τ).loc cc0_stg2_0) ↦{fullShare} f : sProp 𝕄) = four fun j => oPts c j fullShare f := by
  rw [← four_eq]
  unfold oPts
  rw [Ring.pointsTo_blocks (ℓ := (c : Thread nD τ).loc cc0_stg2_0) (fun j : Fin 4 => (oRow j).view.set)
    (fun b b' h => by rw [oRow_set, oRow_set]; exact row_disjoint b b' h)
    ((Finset.biUnion_congr rfl fun b _ => oRow_set b).trans row_cover) f]

/-- The own block's shares and the peers' blocks: the whole result. -/
theorem out_join : iprop((oPts c c (qtr c) (whole X Y) ∗ four fun j => peer c j (dmaPay X Y c 2 j)) ∗ four fun j => peer c j (dmaPay X Y c 3 j))
    ⊢ (((c : Thread nD τ).loc cc0_stg2_0) ↦{fullShare} (whole X Y) : sProp 𝕄) := by
  have h : iprop(oPts c c (qtr c) (whole X Y) ∗ four fun j => peer c j (dmaPay X Y c 2 j)) = oPts c c fullShare (whole X Y) :=
    ((oPts_deal X Y c).trans (four_peer c fun j => oPts c c (qtr j) (whole X Y))).symm
  have h' : iprop(oPts c c fullShare (whole X Y) ∗ four fun j => peer c j (dmaPay X Y c 3 j)) = four fun j => oPts c j fullShare (whole X Y) :=
    (four_peer c fun j => oPts c j fullShare (whole X Y)).symm
  rw [h, h', ← out_split]

/-! ## The body -/

/-- What the body starts from: the operands staged, the other buffers at any contents, the rights to wait for what arrives, the
    semaphores' turns, and the tokens of what it sends. -/
def before : sProp 𝕄 :=
  iprop((xPts X c ∗ yPts Y c ∗ (∃ f, ((c : Thread nD τ).loc cc0_stg2_0) ↦{fullShare} f)
      ∗ (∃ f, ((c : Thread nD τ).loc cc0_scratch0) ↦{fullShare} f) ∗ (∃ f, aPts c f)
      ∗ ∃ f, ((c : Thread nD τ).loc cc0_scratch2) ↦{fullShare} f)
    ∗ (crd (c, none) 3 ∗ (four fun j => peer c j (crd (c, some (1, j)) N)) ∗ four fun j => peer c j (crd (c, some (3, j)) N))
    ∗ (pos₀ (c, none) ∗ (four fun j => pos₀ (c, some (0, j))) ∗ (four fun j => pos₀ (c, some (1, j)))
        ∗ (four fun j => pos₀ (c, some (2, j))) ∗ four fun j => pos₀ (c, some (3, j)))
    ∗ ((four fun j => peer c j (tok (j, none) c)) ∗ (four fun j => toks 0 1 c j) ∗ four fun j => toks 2 3 c j)
    ∗ dues c (owed₀ c))

/-- What it leaves: the operands as they were, the whole result in the result's buffer, the other buffers at some
    contents, every semaphore at zero, and nothing owed. -/
def after : sProp 𝕄 :=
  iprop((xPts X c ∗ yPts Y c ∗ (((c : Thread nD τ).loc cc0_stg2_0) ↦{fullShare} (whole X Y))
      ∗ (∃ f, ((c : Thread nD τ).loc cc0_scratch0) ↦{fullShare} f) ∗ (∃ f, aPts c f)
      ∗ ∃ f, ((c : Thread nD τ).loc cc0_scratch2) ↦{fullShare} f)
    ∗ (semVal (kcell (c, none)) 0 ∗ (four fun j => semVal (kcell (c, some (0, j))) 0) ∗ (four fun j => semVal (kcell (c, some (1, j))) 0)
        ∗ (four fun j => semVal (kcell (c, some (2, j))) 0) ∗ four fun j => semVal (kcell (c, some (3, j))) 0)
    ∗ dues c (owedL []))

/-- The slots and the row blocks the device hands to its peers. -/
theorem pays_split (f : Buf (Elt F) ((c : Thread nD τ).loc cc0_scratch2)) (g : Buf (Elt F) ((c : Thread nD τ).loc cc0_stg2_0)) :
    iprop((((c : Thread nD τ).loc cc0_scratch2) ↦{fullShare} f) ∗ (((c : Thread nD τ).loc cc0_stg2_0) ↦{fullShare} g))
      ⊢ (four fun j => barPay (F := F) c j) := by
  rw [slots_split, out_split]
  unfold barPay
  iintro ⟨⟨Hs0, Hs1, Hs2, Hs3⟩, Ho0, Ho1, Ho2, Ho3⟩
  isplitl [Hs0 Ho0]
  · isplitl [Hs0]
    · iexists f; iexact Hs0
    iexists g; iexact Ho0
  isplitl [Hs1 Ho1]
  · isplitl [Hs1]
    · iexists f; iexact Hs1
    iexists g; iexact Ho1
  isplitl [Hs2 Ho2]
  · isplitl [Hs2]
    · iexists f; iexact Hs2
    iexists g; iexact Ho2
  isplitl [Hs3]
  · iexists f; iexact Hs3
  iexists g; iexact Ho3

theorem step_bind {α β : Type} {p : Prog (TpuEff nD τ sig (Elt F) Λ₀ .tc) β} {k : β → Prog (TpuEff nD τ sig (Elt F) Λ₀ .tc) α}
    {Q : α → sProp (MT nD τ sig Unit (Elt F) ℕ UU ℕ)} : wpc c p (fun a => wpc c (k a) Q) ⊢ wpc c (p >>= k) Q :=
  Entails.of_eq (wp_bind ..).symm

variable {Q : PUnit → sProp (MT nD τ sig Unit (Elt F) ℕ UU ℕ)}

set_option maxHeartbeats 1600000 in
/-- The body of any device leaves the whole result in its buffer. -/
theorem body {h0} {h1} {h2} {h3} {h4} {h5} :
    recs X Y K ⊢ iprop(levAts L lv -∗ before X Y c -∗ (after X Y c -∗ Q ⟨⟩)
      -∗ wpc c (cc0_body xM h0 yM h1 oM h2 pM h3 aM h4 bM h5 cc0_scratch3 cc0_scratch4 cc0_scratch5 cc0_scratch6) Q) := by
  rw [cc0_body_eq_skeleton]; unfold cc0_body_skel
  dsimp only [Prog.lift, Prog.bind_op, Prog.bind_ret, Prog.pure_eq_ret]
  unfold before after
  iintro #HR #Hlev ⟨⟨Hx, Hy, ⟨%g, Ho⟩, Hp, Ha, ⟨%f, Hs⟩⟩, ⟨HcB, Hc1, Hc3⟩, ⟨HatB, ⟨Hat00, Hat01, Hat02, Hat03⟩, Hat1, ⟨Hat20, Hat21, Hat22, Hat23⟩, ⟨Hat30, Hat31, Hat32, Hat33⟩⟩, ⟨HtB, ⟨Ht0, Ht1, Ht2, Ht3⟩, Hts⟩, HO⟩ Hk
  icases (pays_split c f g) $$ [Hs Ho] with Hb
  · isplitl [Hs]; · iexact Hs
    iexact Ho
  iapply (step_bind c)
  iapply (part1 X Y K c) $$ HR Hlev Hx Hy Hp Hb HtB Ht0 HcB HatB HO
  iintro ⟨Hx, Hy, HzB, Hg0, Hp, Hs, Ho, HO⟩
  iapply (step_bind c)
  iapply (part2 X Y K c _) $$ HR Hlev Hg0 Hp Hs [Ht1 Ht2 Ht3] Ha Hc1 Hat1 HO
  · isplitl [Ht1]; · iexact Ht1
    isplitl [Ht2]; · iexact Ht2
    iexact Ht3
  iintro ⟨Hpc, Hsc, ⟨Hc00, Hc01, Hc02, Hc03⟩, Hz1, Hr1, Ha, HO⟩
  iapply (step_bind c)
  iapply (part3 X Y K c) $$ HR Hlev Ho Hts [Hc00 Hc01 Hc02] [Hat00 Hat01 Hat02] HO
  · isplitl [Hc00]; · iexact Hc00
    isplitl [Hc01]; · iexact Hc01
    iexact Hc02
  · isplitl [Hat00]; · iexact Hat00
    isplitl [Hat01]; · iexact Hat01
    iexact Hat02
  iintro ⟨Hq, ⟨Hc20, Hc21, Hc22, Hc23⟩, ⟨Hz00, Hz01, Hz02⟩, ⟨Hr00, Hr01, Hr02⟩, HO⟩
  icases Hc3 with ⟨Hc30, Hc31, Hc32, Hc33⟩
  iapply (step_wait (X := X) (Y := Y) K c 0 3 (P := k0_cond20 c = 1#1) (test_iff c 3) (fun h => sem0_eq 3 _ _ rfl) (mayWait_zero (F := F) c _) (dst := fun _ => pRow 3) (fun h => rfl)) $$ HR Hlev Hc03 Hat03 HO
  iintro ⟨Hz03, HO, Hr03⟩
  iapply (step_wait (X := X) (Y := Y) K c 3 0 (P := test c 0#32) (test_iff c 0) (fun h => sem3_eq 0 _ _ rfl) (mayWait_zero (F := F) c _) (dst := fun _ => oRow 0) (fun h => rfl)) $$ HR Hlev Hc30 Hat30 HO
  iintro ⟨Hz30, HO, Hr30⟩
  iapply (step_wait (X := X) (Y := Y) K c 3 1 (P := test c 1#32) (test_iff c 1) (fun h => sem3_eq 1 _ _ rfl) (mayWait_zero (F := F) c _) (dst := fun _ => oRow 1) (fun h => rfl)) $$ HR Hlev Hc31 Hat31 HO
  iintro ⟨Hz31, HO, Hr31⟩
  iapply (step_wait (X := X) (Y := Y) K c 3 2 (P := test c 2#32) (test_iff c 2) (fun h => sem3_eq 2 _ _ rfl) (mayWait_zero (F := F) c _) (dst := fun _ => oRow 2) (fun h => rfl)) $$ HR Hlev Hc32 Hat32 HO
  iintro ⟨Hz32, HO, Hr32⟩
  iapply (step_wait (X := X) (Y := Y) K c 3 3 (P := test c 3#32) (test_iff c 3) (fun h => sem3_eq 3 _ _ rfl) (mayWait_zero (F := F) c _) (dst := fun _ => oRow 3) (fun h => rfl)) $$ HR Hlev Hc33 Hat33 HO
  iintro ⟨Hz33, HO, Hr33⟩
  iapply (step_wait (X := X) (Y := Y) K c 2 0 (P := k0_cond25 c = 1#1) (test_iff c 0) (fun h => sem2_eq 0 _ _ rfl) (mayWait_zero (F := F) c _) (fun h => (oRow_eq c _ _ (k0_off22_eq c)).symm ▸ rfl)) $$ HR Hlev Hc20 Hat20 HO
  iintro ⟨Hz20, HO, Hr20⟩
  iapply (step_wait (X := X) (Y := Y) K c 2 1 (P := k0_cond26 c = 1#1) (test_iff c 1) (fun h => sem2_eq 1 _ _ rfl) (mayWait_zero (F := F) c _) (fun h => (oRow_eq c _ _ (k0_off23_eq c)).symm ▸ rfl)) $$ HR Hlev Hc21 Hat21 HO
  iintro ⟨Hz21, HO, Hr21⟩
  iapply (step_wait (X := X) (Y := Y) K c 2 2 (P := k0_cond27 c = 1#1) (test_iff c 2) (fun h => sem2_eq 2 _ _ rfl) (mayWait_zero (F := F) c _) (fun h => (oRow_eq c _ _ (k0_off24_eq c)).symm ▸ rfl)) $$ HR Hlev Hc22 Hat22 HO
  iintro ⟨Hz22, HO, Hr22⟩
  iapply (step_wait (X := X) (Y := Y) K c 2 3 (P := k0_cond28 c = 1#1) (test_iff c 3) (fun h => sem2_eq 3 _ _ rfl) (mayWait_zero (F := F) c _) (fun h => (oRow_eq c _ _ (k0_off25_eq c)).symm ▸ rfl)) $$ HR Hlev Hc23 Hat23 HO
  iintro ⟨Hz23, HO, Hr23⟩
  iapply (step_ret c)
  iapply Hk
  isplitl [Hx Hy Hq Hr20 Hr21 Hr22 Hr23 Hr30 Hr31 Hr32 Hr33 Hpc Hr00 Hr01 Hr02 Hr03 Ha Hsc Hr1]
  · isplitl [Hx]; · iexact Hx
    isplitl [Hy]; · iexact Hy
    isplitl [Hq Hr20 Hr21 Hr22 Hr23 Hr30 Hr31 Hr32 Hr33]
    · iapply (out_join X Y c)
      isplitl [Hq Hr20 Hr21 Hr22 Hr23]
      · isplitl [Hq]; · iexact Hq
        isplitl [Hr20]; · iexact Hr20
        isplitl [Hr21]; · iexact Hr21
        isplitl [Hr22]; · iexact Hr22
        iexact Hr23
      isplitl [Hr30]; · iexact Hr30
      isplitl [Hr31]; · iexact Hr31
      isplitl [Hr32]; · iexact Hr32
      iexact Hr33
    isplitl [Hpc Hr00 Hr01 Hr02 Hr03]
    · iapply (rows_join X Y c)
      isplitl [Hpc]; · iexact Hpc
      isplitl [Hr00]; · iexact Hr00
      isplitl [Hr01]; · iexact Hr01
      isplitl [Hr02]; · iexact Hr02
      iexact Hr03
    isplitl [Ha]; · iexists _; iexact Ha
    iapply (slots_join c)
    isplitl [Hsc]; · iexact Hsc
    iexact Hr1
  isplitr [HO]
  · isplitl [HzB]; · iexact HzB
    isplitl [Hz00 Hz01 Hz02 Hz03]
    · isplitl [Hz00]; · iexact Hz00
      isplitl [Hz01]; · iexact Hz01
      isplitl [Hz02]; · iexact Hz02
      iexact Hz03
    isplitl [Hz1]; · iexact Hz1
    isplitl [Hz20 Hz21 Hz22 Hz23]
    · isplitl [Hz20]; · iexact Hz20
      isplitl [Hz21]; · iexact Hz21
      isplitl [Hz22]; · iexact Hz22
      iexact Hz23
    isplitl [Hz30]; · iexact Hz30
    isplitl [Hz31]; · iexact Hz31
    isplitl [Hz32]; · iexact Hz32
    iexact Hz33
  iexact HO

end Cert.Mesh

end
-- ==== Proof.Deal.lean ====
/-
# What the launch deals

Before the kernels start, the ghost state of all cells is made at once and dealt out: each device gets its place at its
own cells, the tokens with which it pays its own sends, and the tokens with which it pays at the other devices. The
credit that the launch hands a device matches what the others owe its cells.
-/
module

public import proofs.«01_k».proof.Proof.Body4
public import proofs.«01_k».proof.Proof.Gen.KernelIdeal.Launch
public import Idealize.ShloMosaic.Lib.Pipeline.Launch
public import Idealize.ShloMosaic.Lib.Pipeline.Kit

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All kinds of cells, one by one -/

theorem opt_univ {A : Type} [Fintype A] [DecidableEq A] :
    (Finset.univ : Finset (Option A)) = insert none (Finset.univ.map Function.Embedding.some) := by
  ext x; rcases x with _ | x <;> simp

/-- A resource for nothing and one for each thing. -/
theorem bigSep_opt {A : Type} [Fintype A] [DecidableEq A] (Φ : Option A → sProp 𝕄) :
    bigSep Finset.univ Φ = iprop(Φ none ∗ bigSep Finset.univ fun a => Φ (some a)) := by
  rw [opt_univ, bigSep_insert (by simp), bigSep_map]
  rfl

/-- The sixteen DMA semaphores, by array; -/
theorem bigSep_dma (Φ : Fin 4 × Fin 4 → sProp 𝕄) :
    bigSep Finset.univ Φ = iprop((four fun j => Φ (0, j)) ∗ (four fun j => Φ (1, j)) ∗ (four fun j => Φ (2, j)) ∗ four fun j => Φ (3, j)) := by
  rw [bigSep_univ_prod]
  exact (bigSep_congr fun a _ => four_eq fun b => Φ (a, b)).trans (four_eq _)
/-- all kinds. -/
theorem bigSep_kinds (Φ : Kd → sProp 𝕄) :
    bigSep Finset.univ Φ = iprop(Φ none ∗ (four fun j => Φ (some (0, j))) ∗ (four fun j => Φ (some (1, j)))
      ∗ (four fun j => Φ (some (2, j))) ∗ four fun j => Φ (some (3, j))) := by
  rw [bigSep_opt, bigSep_dma]

/-! ## What each device is owed -/

theorem owedL_apply (l : List (CellTallies nD τ sig Unit)) (g : GSem nD τ sig) (u : Unit) : owedL l g u = (l.map fun t => t g u).sum := by
  induction l with
  | nil => rfl
  | cons t ts ih => rw [owedL, Pi.add_apply, Finsupp.add_apply, ih, List.map_cons, List.sum_cons, Nat.add_comm]

theorem debt_apply (d j c : Dev nD) (k k' : Kd) :
    debt d j k' (kcell (c, k)) () = if d ≠ j ∧ c = j ∧ k = k' then amountOf k' else 0 := by
  unfold debt
  by_cases h : d = j
  · rw [if_pos h, if_neg fun h' => h'.1 h]; rfl
  · rw [if_neg h, tallyAt_apply]
    by_cases h' : c = j ∧ k = k'
    · rw [if_pos ⟨by rw [h'.1, h'.2], rfl⟩, if_pos ⟨h, h'⟩]
    · rw [if_neg, if_neg fun hh => h' hh.2]
      intro hh
      have e := kcell_inj hh.1
      exact h' ⟨congrArg Prod.fst e, congrArg Prod.snd e⟩

/-- What all devices together owe device `c`'s cell of kind `k`. -/
def total (c : Dev nD) (k : Kd) : ℕ := ∑ d : Dev nD, owed₀ d (kcell (c, k)) ()

theorem owed_apply (d c : Dev nD) (k : Kd) :
    owed₀ d (kcell (c, k)) () = (if d ≠ c ∧ k = none then 1 else 0)
      + ((if d ≠ c ∧ k = some (1, d) then N else 0) + if d ≠ c ∧ k = some (3, d) then N else 0) := by
  have h (k' : Kd) : ((List.finRange 4).map fun j : Dev nD => debt d j k' (kcell (c, k)) ()).sum = if d ≠ c ∧ k = k' then amountOf k' else 0 := by
    rw [← List.ofFn_eq_map, List.sum_ofFn, Finset.sum_eq_single c]
    · rw [debt_apply]
      by_cases hh : d ≠ c ∧ k = k'
      · rw [if_pos ⟨hh.1, rfl, hh.2⟩, if_pos hh]
      · rw [if_neg fun x => hh ⟨x.1, x.2.2⟩, if_neg hh]
    · intro j _ hj
      rw [debt_apply, if_neg fun x => hj x.2.1.symm]
    · exact fun x => absurd (Finset.mem_univ _) x
  unfold owed₀
  rw [owedL_apply, List.map_append, List.map_append, List.sum_append, List.sum_append]
  unfold bars outs
  rw [List.map_map, List.map_map, List.map_map]
  exact congrArg₂ (· + ·) (h none) (congrArg₂ (· + ·) (h (some (1, d))) (h (some (3, d))))

/-- Three signals for the barrier; -/
theorem total_bar (c : Dev nD) : total c none = 3 := by
  unfold total
  rw [Finset.sum_congr rfl fun d _ => owed_apply d c none]
  simp only [reduceCtorEq, and_false, and_true, if_false, Nat.add_zero]
  exact (by decide : ∀ c : Fin 4, (∑ d : Fin 4, if d ≠ c then 1 else 0) = 3) c
/-- one block for each arrival from a peer. -/
theorem total_arr (c j : Dev nD) (h : c ≠ j) (a : Fin 4) (ha : a = 1 ∨ a = 3) : total c (some (a, j)) = N := by
  unfold total
  rw [Finset.sum_eq_single j]
  · rw [owed_apply]
    rcases ha with rfl | rfl
    · rw [if_neg (by simp), if_pos ⟨fun e => h e.symm, rfl⟩, if_neg (by simp)]; rfl
    · rw [if_neg (by simp), if_neg (by simp), if_pos ⟨fun e => h e.symm, rfl⟩, Nat.zero_add, Nat.zero_add]
  · intro d _ hd
    rw [owed_apply, if_neg (by simp), if_neg (by simp [Ne.symm hd]), if_neg (by simp [Ne.symm hd])]; rfl
  · exact fun x => absurd (Finset.mem_univ _) x

theorem launch_cell (c : Dev nD) (k : Kd) :
    tallyOn (kcell (c, k)) (launchCredit (Pipeline.owing owed₀) 0 (kcell (c, k))) = (tallyAt (kcell (c, k)) () (total c k) : CellTallies nD τ sig Unit) := by
  unfold tallyAt; refine congrArg _ (Finsupp.ext fun u => ?_); cases u
  rw [Pipeline.launchCredit_owing, Finsupp.single_eq_same]; rfl

/-- The rights to wait for the signals and the arrivals. -/
theorem creds (c : Dev nD) : (Pipeline.launchCred owed₀ c : sProp 𝕄)
    ⊢ iprop(crd (c, none) 3 ∗ (four fun j => peer c j (crd (c, some (1, j)) N)) ∗ four fun j => peer c j (crd (c, some (3, j)) N)) := by
  unfold Pipeline.launchCred
  have hk : (bigSep (Finset.univ.map ⟨csem, csem_inj⟩) fun sm : SemLoc sig =>
        (cred (tallyOn ((c.tc : Thread nD τ), sm) (launchCredit (Pipeline.owing owed₀) 0 ((c.tc : Thread nD τ), sm))) : sProp 𝕄))
      = bigSep Finset.univ fun k => crd (c, k) (total c k) := by
    rw [bigSep_map]
    exact bigSep_congr fun k _ => congrArg cred (launch_cell c k)
  have hj (a : Fin 4) (ha : a = 1 ∨ a = 3) : (four fun j => crd (F := F) (c, some (a, j)) (total c (some (a, j))))
      ⊢ four fun j => peer c j (crd (F := F) (c, some (a, j)) N) := by
    rw [← four_eq, ← four_eq]
    have hd (j : Dev nD) : crd (F := F) (c, some (a, j)) (total c (some (a, j))) ⊢ peer c j (crd (F := F) (c, some (a, j)) N) := by
      by_cases h : c = j
      · unfold peer ife; rw [if_pos h]; iintro -; iempintro
      · unfold peer ife; rw [if_neg h, total_arr c j h a ha]
    exact bigSep_mono fun j _ => hd j
  refine (bigSep_subset (Finset.subset_univ _)).trans ((Entails.of_eq hk).trans ?_)
  rw [bigSep_kinds, total_bar]
  iintro ⟨Hb, -, H1, -, H3⟩
  isplitl [Hb]; · iexact Hb
  isplitl [H1]
  · iapply (hj 1 (.inl rfl)); iexact H1
  iapply (hj 3 (.inr rfl)); iexact H3

/-! ## The ghost state made -/

variable (X : Dev nD → FVec F S1024x256 .bf16) (Y : Dev nD → FVec F S256x1024 .bf16)

def allCells : Finset (GSem nD τ sig) := Finset.univ.map ⟨kcell, kcell_inj⟩

/-- The tokens of device `c`'s cells that bear the name `j`: of its barrier, and of each array's cell `j`. -/
abbrev tokAt (x : Dev nD × Fin 4 × Option (Fin 4)) : GSem nD τ sig × ℕ × Dev nD :=
  (kcell (x.1, x.2.2.map fun a => (a, x.2.1)), 0, x.2.1)
theorem tokAt_inj : Function.Injective tokAt := fun x y h => by
  have h1 := kcell_inj (congrArg Prod.fst h)
  have h2 : x.2.1 = y.2.1 := congrArg (fun z : GSem nD τ sig × ℕ × Dev nD => z.2.2) h
  have h3 : x.2.2.map (fun a => (a, x.2.1)) = y.2.2.map (fun a => (a, x.2.1)) := (Prod.mk.inj h1).2.trans (by rw [h2])
  have h4 : x.2.2 = y.2.2 := Option.map_injective (fun a b e => congrArg Prod.fst e) h3
  exact Prod.ext (Prod.mk.inj h1).1 (Prod.ext h2 h4)
def allToks : Finset (GSem nD τ sig × ℕ × Dev nD) := Finset.univ.map ⟨tokAt, tokAt_inj⟩

/-- Those that `j` pays with, at `c`; -/
def abroad (c j : Dev nD) : sProp 𝕄 := iprop(tok (F := F) (c, none) j ∗ tok (c, some (1, j)) j ∗ tok (c, some (3, j)) j)
/-- and those `c` itself pays with. -/
def home (c j : Dev nD) : sProp 𝕄 := iprop(tok (F := F) (c, some (0, j)) j ∗ tok (c, some (2, j)) j)

theorem toks_all : bigSep allToks (fun x => (dutyTok (ER (F := F)) x.1 x.2.1 x.2.2 : sProp 𝕄))
    ⊢ bigSep Finset.univ fun c : Dev nD => bigSep Finset.univ fun j : Dev nD => iprop(abroad (F := F) c j ∗ home c j) := by
  unfold allToks
  rw [bigSep_map, bigSep_univ_prod]
  refine bigSep_mono fun c _ => ?_
  rw [bigSep_univ_prod]
  refine bigSep_mono fun j _ => ?_
  rw [bigSep_opt, four_eq]
  unfold abroad home
  refine BIBase.Entails.trans (show _ ⊢ iprop(tok (F := F) (c, none) j ∗ tok (c, some (0, j)) j ∗ tok (c, some (1, j)) j ∗ tok (c, some (2, j)) j ∗ tok (c, some (3, j)) j) from .rfl) ?_
  iintro ⟨Hb, H0, H1, H2, H3⟩
  isplitl [Hb H1 H3]
  · isplitl [Hb]; · iexact Hb
    isplitl [H1] <;> iassumption
  isplitl [H0] <;> iassumption

/-- The tokens by device that pays with them. -/
theorem toks_around : (bigSep Finset.univ fun c : Dev nD => bigSep Finset.univ fun j : Dev nD => iprop(abroad (F := F) c j ∗ home c j))
    = bigSep Finset.univ fun c : Dev nD => bigSep Finset.univ fun j : Dev nD => iprop(abroad (F := F) j c ∗ home c j) := by
  have h (A B : Dev nD → Dev nD → sProp 𝕄) : (bigSep Finset.univ fun c : Dev nD => bigSep Finset.univ fun j : Dev nD => iprop(A c j ∗ B c j))
      = iprop((bigSep Finset.univ fun c : Dev nD => bigSep Finset.univ fun j : Dev nD => A c j) ∗ bigSep Finset.univ fun c : Dev nD => bigSep Finset.univ fun j : Dev nD => B c j) := by
    rw [← bigSep_sep']
    exact bigSep_congr fun c _ => bigSep_sep' Finset.univ (A c) (B c)
  rw [h, h, bigSep_univ_comm]

/-- What a device is dealt: the state of its cells' rounds, its places, the tokens of its cells; -/
def dealt (c : Dev nD) : sProp 𝕄 :=
  iprop((bigSep Finset.univ fun k : Kd => roundState ER (sched X Y) (kcell (c, k)) 0)
    ∗ (bigSep Finset.univ fun k : Kd => iprop(pos₀ (F := F) (c, k) ∗ reached ER (kcell (c, k)) 0))
    ∗ bigSep Finset.univ fun j : Dev nD => iprop(abroad (F := F) c j ∗ home c j))
/-- and what it has once every cell is under its invariant: its places and the tokens it pays with. -/
def mine (c : Dev nD) : sProp 𝕄 :=
  iprop((bigSep Finset.univ fun k : Kd => pos₀ (F := F) (c, k)) ∗ bigSep Finset.univ fun j : Dev nD => iprop(abroad (F := F) j c ∗ home c j))
def held (c : Dev nD) : sProp 𝕄 := iprop(∃ K, recs X Y K ∗ mine c)

theorem fund_cells : BI.own (ER (F := F) (initOf allCells allToks)) ⊢ (|==> bigSep Finset.univ (dealt X Y) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  iintro HX
  imod (Rounds.fund ER (sched X Y) allCells allToks) $$ HX with ⟨Hst, Hr, Hat, Htok⟩
  imodintro
  ihave Hst' := (Entails.of_eq (hX fun g => roundState ER (sched X Y) g 0)) $$ Hst
  ihave Hat' := (Entails.of_eq (hX fun g => atPos ER g 0 ∅ 0)) $$ Hat
  ihave Hr' := (Entails.of_eq (hX fun g => reached ER g 0)) $$ Hr
  ihave Htok' := (toks_all (F := F)) $$ Htok
  unfold dealt; simp only [bigSep_sep']
  isplitl [Hst']; · iexact Hst'
  isplitl [Hat' Hr']
  · isplitl [Hat'] <;> iassumption
  iexact Htok'

/-! ## The cells under their invariants -/

/-- The kernel's own semaphores. -/
abbrev osem (aj : Fin 4 × Fin 4) : SemLoc sig := csem (some aj)
theorem ownSemFacts : Pipeline.OwnSemFacts spec0 osem := by decide +kernel

theorem ownSems0_eq (c : Dev nD) :
    (Pipeline.ownSems0 (Ix := Unit) (Name := ℕ) (U := UU) (Lvl := ℕ) (Val := Elt F) (τ := τ) osem c : sProp 𝕄)
      = bigSep Finset.univ fun aj => semVal (kcell (c, some aj)) 0 := rfl
/-- The barrier semaphore is the one that outlives the kernel. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_opt]
  exact sep_comm.1

theorem core_alloc (c : Dev nD) :
    iprop(Pipeline.ownSems0 (Ix := Unit) (Name := ℕ) (U := UU) (Lvl := ℕ) (Val := Elt F) (τ := τ) osem c ∗ unscopedSems0 c ∗ dealt X Y c)
      ⊢ |={Set.univ}=> iprop((bigSep Finset.univ fun k : Kd => iprop(∃ κ : ℕ, cellInv ER (sched X Y) κ (kcell (c, k))))
          ∗ (bigSep Finset.univ fun k : Kd => iprop(pos₀ (F := F) (c, k) ∗ reached ER (kcell (c, k)) 0))
          ∗ bigSep Finset.univ fun j : Dev nD => iprop(abroad (F := F) c j ∗ home c j)) := by
  unfold dealt
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (sched X Y) (kcell (c, k)) 0)
      ⊢ (|={Set.univ}=> bigSep Finset.univ fun k => iprop(∃ κ : ℕ, cellInv ER (sched X Y) κ (kcell (c, k))) : sProp 𝕄) from by
        rw [← bigSep_sep']
        exact (bigSep_mono fun k _ => (Rounds.body_intro ER (sched X Y) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem held_intro (K : Dev nD × Kd → ℕ) (c : Dev nD) : iprop(recs X Y K ∗ mine c) ⊢ held X Y c := by
  unfold held
  iintro H; iexists K; iexact H

theorem regroup :
    (bigSep Finset.univ fun c : Dev nD => iprop((bigSep Finset.univ fun k : Kd => iprop(∃ κ : ℕ, cellInv ER (sched X Y) κ (kcell (c, k))))
          ∗ (bigSep Finset.univ fun k : Kd => iprop(pos₀ (F := F) (c, k) ∗ reached ER (kcell (c, k)) 0))
          ∗ bigSep Finset.univ fun j : Dev nD => iprop(abroad (F := F) c j ∗ home c j)) : sProp 𝕄)
      ⊢ bigSep Finset.univ (held X Y) := by
  rw [bigSep_sep', bigSep_sep', ← bigSep_univ_prod (fun ck : Dev nD × Kd => iprop(∃ κ : ℕ, cellInv ER (sched X Y) κ (kcell ck))),
    bigSep_congr (s := Finset.univ) (fun (c : Dev nD) _ => bigSep_sep' Finset.univ (fun k : Kd => pos₀ (F := F) (c, k)) (fun k => reached ER (kcell (c, k)) 0)),
    bigSep_sep', ← bigSep_univ_prod (fun ck : Dev nD × Kd => (reached ER (kcell ck) 0 : sProp 𝕄)), toks_around]
  iintro ⟨HI, ⟨Hat, #HR⟩, Htok⟩
  ihave HK := (BI.bigSep_exists_pi Finset.univ (fun (ck : Dev nD × Kd) (κ : ℕ) => (cellInv ER (sched X Y) κ (kcell ck) : sProp 𝕄))) $$ HI
  icases HK with ⟨%K, #HI⟩
  iapply (share_out (R := recs X Y K) fun c _ => held_intro X Y K c)
  isplitr
  · unfold recs; isplitl; · iexact HI
    iexact HR
  · unfold mine
    rw [bigSep_sep']
    isplitl [Hat]; · iexact Hat
    iexact Htok

/-- Every device's semaphores, at zero, and what it was dealt become the invariants and what it holds. -/
theorem glob : (bigSep Finset.univ fun c => iprop(Pipeline.ownSems0 (Ix := Unit) (Name := ℕ) (U := UU) (Lvl := ℕ) (Val := Elt F) (τ := τ) osem c ∗ unscopedSems0 c ∗ dealt X Y c) : sProp 𝕄)
    ⊢ |={Set.univ}=> bigSep Finset.univ (held X Y) :=
  ((bigSep_mono fun c _ => core_alloc X Y c).trans (bigSep_fupd _ _)).trans (BI.fupd_mono (regroup X Y))

/-! ## As the body wants it -/

theorem peer_intro (c j : Dev nD) (A : sProp 𝕄) : A ⊢ peer c j A := by
  unfold peer ife
  by_cases h : c = j
  · rw [if_pos h]; iintro -; iempintro
  · rw [if_neg h]

/-- The tokens for the signals and the copies. -/
theorem toks_deal (c : Dev nD) : (bigSep Finset.univ fun j : Dev nD => iprop(abroad (F := F) j c ∗ home c j))
    ⊢ iprop((four fun j => peer c j (tok (F := F) (j, none) c)) ∗ (four fun j => toks 0 1 c j) ∗ four fun j => toks 2 3 c j) := by
  rw [← four_eq, ← four_eq, ← four_eq, ← bigSep_sep', ← bigSep_sep']
  have hd (j : Dev nD) : iprop(abroad (F := F) j c ∗ home c j) ⊢ iprop(peer c j (tok (F := F) (j, none) c) ∗ toks 0 1 c j ∗ toks 2 3 c j) := by
    unfold abroad home
    iintro ⟨⟨Hb, H1, H3⟩, H0, H2⟩
    isplitl [Hb]
    · iapply (peer_intro c j (tok (F := F) (j, none) c)); iexact Hb
    isplitl [H0 H1]
    · iapply (peer_intro c j iprop(tok (F := F) (c, some (0, j)) j ∗ tok (j, some (1, c)) c))
      isplitl [H0] <;> iassumption
    · iapply (peer_intro c j iprop(tok (F := F) (c, some (2, j)) j ∗ tok (j, some (3, c)) c))
      isplitl [H2] <;> iassumption
  exact bigSep_mono fun j _ => hd j

/-- The places, by kind. -/
theorem places_deal (c : Dev nD) : (bigSep Finset.univ fun k : Kd => pos₀ (F := F) (c, k))
    = iprop(pos₀ (F := F) (c, none) ∗ (four fun j => pos₀ (F := F) (c, some (0, j))) ∗ (four fun j => pos₀ (F := F) (c, some (1, j)))
        ∗ (four fun j => pos₀ (F := F) (c, some (2, j))) ∗ four fun j => pos₀ (F := F) (c, some (3, j))) := bigSep_kinds _

end Cert.Mesh

end
-- ==== Proof.Launch.lean ====
/-
# The run

The kernel is launched on all four devices at once. Every fair execution ends, with the operands as they were, every
semaphore at zero, and the whole result in each device's result array.
-/
module

public import proofs.«01_k».proof.Proof.Deal
public import proofs.«01_k».proof.Proof.Gen.KernelIdeal.Points
public import Idealize.ShloMosaic.Lib.Pipeline.CollectiveSegs
public import Idealize.ShloMosaic.Lib.Quiescent
public import Idealize.ShloMosaic.Lib.Tactic

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local irreducible] Idealize.SL.Sem.wp

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The operands' blocks by device, as the launch finds them. -/
def xOf (c : Dev nD) : FVec F S1024x256 .bf16 := m ((c : Thread nD τ).loc main_arg0)
def yOf (c : Dev nD) : FVec F S256x1024 .bf16 := m ((c : Thread nD τ).loc main_arg1)

/-! ## A window's one block is its array -/

theorem read_blk0 (f : main_arg0.ty.Contents (Elt F)) : (win0_0.blk t0_0).view.read (Elt F) f = f :=
  Memref.read_access_unit_zero (Elt F) main_arg0 (funext fun a => by fin_cases a <;> decide) (fun a => by fin_cases a <;> decide) f
theorem read_blk1 (f : main_arg1.ty.Contents (Elt F)) : (win0_1.blk t0_0).view.read (Elt F) f = f :=
  Memref.read_access_unit_zero (Elt F) main_arg1 (funext fun a => by fin_cases a <;> decide) (fun a => by fin_cases a <;> decide) f
theorem write_blk2 (f w : main_v1.ty.Contents (Elt F)) : (win0_2.blk t0_0).view.write (Elt F) f w Finset.univ = w :=
  Memref.write_access_unit_zero_univ (Elt F) main_v1 (funext fun a => by fin_cases a <;> decide) (fun a => by fin_cases a <;> decide) f w

/-! ## The pipeline's proof data -/

/-- The other buffers, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

/-- What the body of device `c` starts from besides the buffers. -/
def start (c : Dev nD) : sProp 𝕄 :=
  iprop(held (xOf m) (yOf m) c
    ∗ (crd (c, none) 3 ∗ (four fun j => peer c j (crd (c, some (1, j)) N)) ∗ four fun j => peer c j (crd (c, some (3, j)) N))
    ∗ levAts L lv)
def stateBefore (c : Dev nD) : sProp 𝕄 := iprop(start m c ∗ scratch c)
def stateAfter (c : Dev nD) : sProp 𝕄 := iprop((bigSep Finset.univ fun k : Kd => semVal (kcell (c, k)) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m c
    | ⟨1, _⟩ => yOf m c
    | ⟨2, _⟩ => whole (xOf m) (yOf m)
  Φ t := match t with
    | ⟨0, _⟩ => stateBefore m c
    | ⟨_ + 1, _⟩ => stateAfter c
  q _ := fullShare
  owed t := match t with
    | ⟨0, _⟩ => owed₀ c
    | ⟨_ + 1, _⟩ => 0

theorem share_eq (c : Dev nD) (w : Fin cfg0.W) : (dats m ρ 0 c).share w = fullShare := by unfold Dat.share; split <;> rfl

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(stateBefore m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def bodyPost (c : Dev nD) : sProp 𝕄 :=
  iprop(stateAfter c ∗ (dats m ρ 0 c).owesAt () t0_0.succ
    ∗ stg c cc0_stg0_0 (xOf m c) ∗ stg c cc0_stg1_0 (yOf m c) ∗ stg c cc0_stg2_0 (whole (xOf m) (yOf m)))

theorem before_x (c : Dev nD) (d) : (dats m ρ 0 c).before (0 : Fin 3) t0_0 d = xOf m c := by
  unfold Dat.before
  rw [if_pos (fetch0_0 t0_0)]
  exact read_blk0 (F := F) _
theorem before_y (c : Dev nD) (d) : (dats m ρ 0 c).before (1 : Fin 3) t0_0 d = yOf m c := by
  unfold Dat.before
  rw [if_pos (fetch0_1 t0_0)]
  exact read_blk1 (F := F) _

theorem state_body (c : Dev nD) :
    bodyPre m ρ c ⊢ iprop(∃ K, recs (xOf m) (yOf m) K ∗ levAts L lv ∗ before (xOf m) (yOf m) c) := by
  unfold bodyPre stateBefore start held mine scratch before Dat.owesAt Pipeline.owesWithin xPts yPts
  rw [places_deal]
  simp only [before_x, before_y]
  iintro ⟨⟨⟨⟨%K, HR, Hat, Htok⟩, Hc, Hlev⟩, Hp, Ha, Hs⟩, ⟨%W, %hW, HO⟩, ⟨%d0, %f0, %h0, Hx⟩, ⟨%d1, %f1, %h1, Hy⟩, ⟨%d2, %f2, %h2, Ho⟩⟩
  subst h0 h1
  iexists K
  isplitl [HR]; · iexact HR
  isplitl [Hlev]; · iexact Hlev
  isplitl [Hx Hy Ho Hp Ha Hs]
  · isplitl [Hx]; · iexact Hx
    isplitl [Hy]; · iexact Hy
    isplitl [Ho]; · iexists f2; iexact Ho
    isplitl [Hp]; · iexact Hp
    isplitl [Ha]; · iexact Ha
    iexact Hs
  isplitl [Hc]; · iexact Hc
  isplitl [Hat]; · iexact Hat
  isplitl [Htok]; · iapply (toks_deal c); iexact Htok
  unfold dues
  iexists W; iexact HO

theorem body_state (c : Dev nD) : after (xOf m) (yOf m) c ⊢ bodyPost m ρ c := by
  unfold bodyPost stateAfter after scratch Dat.owesAt Pipeline.owesWithin xPts yPts dues
  rw [bigSep_kinds]
  iintro ⟨⟨Hx, Hy, Ho, Hp, Ha, Hs⟩, Hz, %W, HO⟩
  isplitl [Hz Hp Ha Hs]
  · isplitl [Hz]; · iexact Hz
    isplitl [Hp]; · iexact Hp
    isplitl [Ha]; · iexact Ha
    iexact Hs
  isplitl [HO]
  · iexists W
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Ho

set_option maxRecDepth 4000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show bodyPre m ρ c ⊢ wpc c (cc0_body xM (Memref.isWhole_whole _) yM (Memref.isWhole_whole _) oM (Memref.isWhole_whole _)
    pM (Memref.isWhole_whole _) aM (Memref.isWhole_whole _) bM (Memref.isWhole_whole _) cc0_scratch3 cc0_scratch4 cc0_scratch5 cc0_scratch6)
    (fun _ => bodyPost m ρ c)
  refine (state_body m ρ c).trans ?_
  iintro ⟨%K, HR, Hlev, Hb⟩
  iapply (body (xOf m) (yOf m) K c) $$ HR Hlev Hb
  iintro H
  iapply (body_state m ρ c)
  iexact H

/-! ## The launch's side conditions -/

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ held (xOf m) (yOf m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = stateBefore m c from rfl, scopedRest0_eq]
  unfold stateBefore scratch
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = stateAfter c from rfl, scopedRest0_eq, ownSems0_eq, unscopedSems0_eq]
  unfold stateAfter scratch
  rw [bigSep_opt]
  iintro ⟨⟨Hb, Hz⟩, Hr⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt (xOf m) (yOf m)) (G' := held (xOf m) (yOf m)) (u₀ := u₀)
    (hu₀ := by
      unfold u₀
      iintro Hu
      ihave H := (ownU_pair _ _) $$ Hu
      icases H with ⟨HP, HX⟩
      imod (fund_cells (xOf m) (yOf m)) $$ HX with HG
      imodintro
      isplitl [HP] <;> iassumption)
    (hglob := glob (xOf m) (yOf m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) :=
  (dats (F := F) m ρ 0 c).arrAt_in (0 : Fin 3) rfl _
theorem final_y (c : Dev nD) : finalA m ρ c (1 : Fin 3) = m ((c : Thread nD τ).loc main_arg1) :=
  (dats (F := F) m ρ 0 c).arrAt_in (1 : Fin 3) rfl _
theorem final_o (c : Dev nD) : finalA m ρ c (2 : Fin 3) = whole (xOf m) (yOf m) := by
  unfold finalA
  rw [show cfg0.N = (t0_0 : Fin cfg0.N).val + 1 from N_0, (dats m ρ 0 c).arrAt_succ (2 : Fin 3) t0_0, if_pos (flush0_2 t0_0)]
  exact write_blk2 _ _

/-- Every fair execution ends with the whole result on every device, the operands unchanged and the counters at zero. -/
theorem run_main : θ_run defs (onTc (τ := τ) (main (F := F))) ⟨m, fun _ => 0, ρ⟩ (fun r =>
    (∀ c : Dev nD, r.2.mem ((c.tc : Thread nD τ).loc main_v1) = whole (xOf m) (yOf m)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_y m ρ c)⟩, h.2⟩) (run_arrays m ρ)

end Cert.Mesh

end
-- ==== Proof.PartValue.lean ====
/-
# What one device's parts hold

Over the extended reals, where a change of format changes nothing: an element of a device's product is the sum over
its 256 columns, a row block of it is read 256 rows further down for each block, and the accumulator of device `c`,
whichever block it starts from, ends with the sum of the four devices' blocks `c`.
-/
module

public import proofs.«01_k».proof.Proof.Places
public import Idealize.ShloMosaic.Lib.Pointwise

@[expose] public section

noncomputable section

namespace Cert.Mesh

open Cert.KernelIdeal Cert.KernelIdeal.Gen
open Idealize.ShloMosaic Idealize.ShloMosaic.TcCoe

variable (X : Dev nD → FVec Ideal S1024x256 .bf16) (Y : Dev nD → FVec Ideal S256x1024 .bf16)

/-- An element of a device's product: the sum over its columns. -/
theorem part_apply (c : Dev nD) (r n : Fin 1024) :
    part X Y c (ix2 r n) = ∑ k : Fin 256, X c (ix2 r k) * Y c (ix2 k n) := by
  unfold part
  pointwise [k0_pay1]

/-- Row `r` of row block `j`, as a row of the whole array. -/
abbrev rowIn (j : Fin 4) (r : Fin 256) : Fin 1024 := ⟨256 * j.val + r.val, by omega⟩

/-- Element `(r, n)` of a device's row block `j` is element `(256 j + r, n)` of its product. -/
theorem prow_apply (s : Dev nD) (j : Fin 4) (r : Fin 256) (n : Fin 1024) :
    prow X Y s j (ix2 r n) = part X Y s (ix2 (rowIn j r) n) := by
  show part X Y s ((rowR j).emb (ix2 r n)) = _
  refine congrArg _ (funext fun a => Fin.ext ?_)
  rw [Rect.emb_apply]
  fin_cases a
  · show 256 * j.val + 1 * r.val = 256 * j.val + r.val; omega
  · show 0 + 1 * n.val = n.val; omega

/-- Adding a received block adds it element by element. -/
theorem addRow_apply (a : FVec Ideal S256x1024 .f32) (v : FVec Ideal S256x1024 .bf16) (i : S256x1024.Idx) :
    addRow a v i = (a i + v i : EReal) := by
  unfold addRow
  pointwise

/-- The own block, in the accumulator's format. -/
theorem own_apply (v : FVec Ideal S256x1024 .bf16) (i : S256x1024.Idx) :
    k0_pay2 (F := Ideal) v i = (v i : EReal) := by
  pointwise [k0_pay2]

/-- The accumulator's steps, element by element. -/
theorem accUp_apply (c : Dev nD) (j : Fin 4) (a : FVec Ideal S256x1024 .f32) (i : S256x1024.Idx) :
    accUp X Y c j a i = (a i + if c = j then 0 else (prow X Y j c i : EReal) : EReal) := by
  unfold accUp
  split
  · exact (add_zero _).symm
  · exact addRow_apply _ _ _

/-- A sum of four terms, begun with any one of them and passing it over later. -/
theorem own_first (p : Fin 4 → EReal) (c : Fin 4) :
    p c + (if c = 0 then 0 else p 0) + (if c = 1 then 0 else p 1) + (if c = 2 then 0 else p 2)
      + (if c = 3 then 0 else p 3) = ∑ s : Fin 4, p s := by
  rw [Fin.sum_univ_four]
  fin_cases c <;> simp <;> abel

/-- The accumulator's last value, written out. -/
theorem accOf_steps (c : Dev nD) :
    accOf X Y c = accUp X Y c 3 (accUp X Y c 2 (accUp X Y c 1 (accUp X Y c 0 (k0_pay2 (prow X Y c c))))) := rfl

/-- Device `c`'s accumulator ends with the sum of the four devices' blocks `c`. -/
theorem accOf_apply (c : Dev nD) (i : S256x1024.Idx) :
    accOf X Y c i = (∑ s : Fin 4, (prow X Y s c i : EReal) : EReal) := by
  rw [accOf_steps, accUp_apply, accUp_apply, accUp_apply, accUp_apply, own_apply]
  exact own_first (fun s => prow X Y s c i) c

end Cert.Mesh

end
-- ==== Proof.RefValue.lean ====
/-
# What the reference holds

The reference's result as a function of its two arrays, and an element of it over the extended reals: the activation of
the sum over the 1024 columns.
-/
module

public import proofs.«01_k».proof.Proof.PartValue
public import proofs.«01_k».proof.Proof.Gen.ReferenceIdeal.Run

@[expose] public section

noncomputable section

namespace Cert.Mesh.Ref

open Cert.ReferenceIdeal Cert.ReferenceIdeal.Gen
open Idealize.ShloMosaic Idealize.ShloMosaic.TcCoe Idealize.SL.Sem

/-- The reference's product, rounded to the operands' format and back. -/
def dotOut (A B : FVec Ideal S1024x1024 .bf16) : FVec Ideal S1024x1024 .f32 :=
  extf .f32 (truncf .bf16 (Host.dotGeneral dot_S1024x1024_S1024x1024_S1024x1024_1_0_0_1_n_n none A B) bitsLt_bf16_f32) bitsLt_bf16_f32

/-- The reference's product clipped to the range from -60 to 60. -/
def clipped (y : FVec Ideal S1024x1024 .f32) : FVec Ideal S1024x1024 .f32 :=
  minimumf (broadcastInDim S1024x1024 ![] bcast_S_S1024x1024 (id (constant S_ .f32 0x42700000#32)))
    (maximumf (broadcastInDim S1024x1024 ![] bcast_S_S1024x1024 (id (constant S_ .f32 0xC2700000#32))) y)

/-- The reference's result. -/
def refOut (A B : FVec Ideal S1024x1024 .bf16) : FVec Ideal S1024x1024 .bf16 :=
  truncf .bf16 (Host.divf (dotOut A B)
    (addf (broadcastInDim S1024x1024 ![] bcast_S_S1024x1024 (constant S_ .f32 0x3F800000#32))
      (Host.exp (Host.negf (clipped (dotOut A B)))))) bitsLt_bf16_f32

/-- The reference's run: its result is `refOut` of its arguments, which stay. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  Value.run m ρ

/-- An element of the product: the sum over the columns. -/
theorem dotOut_apply (A B : FVec Ideal S1024x1024 .bf16) (r n : Fin 1024) :
    dotOut A B (ix2 r n) = ∑ k : Fin 1024, A (ix2 r k) * B (ix2 k n) := by
  unfold dotOut
  pointwise

/-- The activation of one value `y`: `y` divided by one plus the exponential of minus `y`, that `y` clipped to the range
    from -60 to 60. -/
def act (y : EReal) : EReal :=
  Ideal.div y (1 + Ideal.exp (-(min (Ideal.ofBits .f32 0x42700000#32) (max (Ideal.ofBits .f32 0xC2700000#32) y))))

/-- An element of the reference's result is the activation of the product's. -/
theorem refOut_apply (A B : FVec Ideal S1024x1024 .bf16) (i : S1024x1024.Idx) :
    refOut A B i = act (dotOut A B i) := by
  unfold refOut clipped act
  generalize dotOut A B = y
  pointwise
  rfl

/-- A device's block is, element by element, the activation of its accumulator. -/
theorem blockOut_apply (X : Dev Cert.KernelIdeal.nD → FVec Ideal Cert.KernelIdeal.S1024x256 .bf16)
    (Y : Dev Cert.KernelIdeal.nD → FVec Ideal Cert.KernelIdeal.S256x1024 .bf16) (c : Dev Cert.KernelIdeal.nD)
    (i : Cert.KernelIdeal.S256x1024.Idx) : blockOut X Y c i = act (accOf X Y c i) := by
  unfold blockOut act
  generalize accOf X Y c = y
  pointwise [Cert.KernelIdeal.Gen.k0_pay8, Cert.KernelIdeal.Gen.k0_pay7]
  rw [zero_sub]

end Cert.Mesh.Ref

end
-- ==== Proof.Value.lean ====
/-
# The equation

When every device holds its block of the reference's arrays (its columns of the left one, its rows of the right one),
the array that all devices end with is the reference's result: the sum over the 1024 columns is the sum over the devices
of the sums over their 256 columns, and the activation is the same on both sides.
-/
module

public import proofs.«01_k».proof.Proof.RefValue
public import Idealize.ShloMosaic.Lib.Layout

@[expose] public section

noncomputable section

namespace Cert.Mesh

open Cert.KernelIdeal Cert.KernelIdeal.Gen
open Idealize.ShloMosaic Idealize.ShloMosaic.TcCoe

variable (A B : FVec Ideal S1024x1024 .bf16)

/-- Device `c`'s columns of the left array; -/
abbrev colsOf (c : Dev nD) : FVec Ideal S1024x256 .bf16 := Layout.block ⟨2, ![1024, 256]⟩ ⟨2, ![1024, 1024]⟩ 1 4 c A
/-- device `c`'s rows of the right array. -/
abbrev rowsOf (c : Dev nD) : FVec Ideal S256x1024 .bf16 := Layout.block ⟨2, ![256, 1024]⟩ ⟨2, ![1024, 1024]⟩ 0 4 c B

/-- Position `k` of device `c`'s stretch of the contracted axis. -/
abbrev posIn (c : Fin 4) (k : Fin 256) : Fin 1024 := ⟨c.val * 256 + k.val, by omega⟩

/-- Element `(r, k)` of device `c`'s columns; -/
theorem colsOf_apply (c : Dev nD) (r : Fin 1024) (k : Fin 256) : colsOf A c (ix2 r k) = A (ix2 r (posIn c k)) :=
  congrArg A (funext fun a => Fin.ext (by fin_cases a <;> rfl))
/-- element `(k, n)` of device `c`'s rows. -/
theorem rowsOf_apply (c : Dev nD) (k : Fin 256) (n : Fin 1024) : rowsOf B c (ix2 k n) = B (ix2 (posIn c k) n) :=
  congrArg B (funext fun a => Fin.ext (by fin_cases a <;> rfl))

/-- The four devices' blocks add up to the product of the whole arrays. -/
theorem accOf_eq_dot (j : Fin 4) (r : Fin 256) (n : Fin 1024) :
    accOf (colsOf A) (rowsOf B) j (ix2 r n) = Ref.dotOut A B (ix2 (rowIn j r) n) := by
  rw [accOf_apply, Ref.dotOut_apply, Fin.sum_univ_tiles 4 256 rfl]
  refine Finset.sum_congr rfl fun s _ => ?_
  rw [prow_apply, part_apply]
  refine Finset.sum_congr rfl fun k _ => ?_
  rw [colsOf_apply, rowsOf_apply]

/-- An element's place in the whole array, from its row block and its place there. -/
theorem place_eq (e : S1024x1024.Idx) :
    ∃ (r : Fin 256) (n : Fin 1024), inBlk e = ix2 r n ∧ ix2 (rowIn (blkOf e) r) n = e := by
  refine ⟨inBlk e 0, e 1, funext fun a => ?_, funext fun a => Fin.ext ?_⟩
  · fin_cases a <;> rfl
  · fin_cases a
    · exact Nat.div_add_mod (e 0).val 256
    · rfl

/-- The array that all devices end with is the reference's result. -/
theorem whole_eq_ref : whole (colsOf A) (rowsOf B) = Ref.refOut A B := by
  funext e
  obtain ⟨r, n, hin, he⟩ := place_eq e
  show blockOut (colsOf A) (rowsOf B) (blkOf e) (inBlk e) = _
  rw [Ref.blockOut_apply, Ref.refOut_apply, hin, accOf_eq_dot, he]

end Cert.Mesh

end
-- ==== Proof.lean ====
/-
# The certificate

The five claims about the kernel: it runs, leaves its arguments as they were and every counter at zero, over the machine's
words and over the extended reals; the reference does too; and over the extended reals the array that each of the four
devices ends with is the reference's result. The kernel's run is Launch.lean's, for any floats; the equation of the two
results is Value.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two readings of the kernel have one text: their body tables agree, -/
theorem bodies_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (_, _) => rfl
/-- and so do their tables with the launch. -/
theorem tables_eq : Cert.Kernel.defs (F := Bits) = Cert.KernelIdeal.defs :=
  congrArg (Pipeline.defs Cert.KernelIdeal.pcfgs) bodies_eq

/-- The kernel over the machine's words runs, leaves its arguments and ends with every counter at zero. -/
theorem frame_kernel : Cert.quiescent_Kernel := by
  intro m ρ _
  rw [tables_eq]
  exact (θ_run Cert.KernelIdeal.defs _ _).mono (fun _ h => ⟨fun c => (h.1 c).2, h.2⟩) (Mesh.run_main (F := Bits) m ρ)

/-- So does the kernel over the extended reals, -/
theorem frame_ideal : Cert.quiescent_KernelIdeal := fun m ρ _ =>
  (θ_run Cert.KernelIdeal.defs _ _).mono (fun _ h => ⟨fun c => (h.1 c).2, h.2⟩) (Mesh.run_main (F := Ideal) m ρ)

/-- and the reference, which has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Mesh.Ref.run_ref m ρ)

/-- Over the extended reals, from the blocks of the reference's arrays, every device ends with the reference's result. -/
theorem algebraic : Cert.algebraic_KernelIdeal_ReferenceIdeal := fun m ρ m' ρ' _ hag => by
  have hX : Mesh.xOf m = Mesh.colsOf _ := funext fun c => (hag c).1
  have hY : Mesh.yOf m = Mesh.rowsOf _ := funext fun c => (hag c).2
  refine ⟨_, (θ_run Cert.KernelIdeal.defs _ _).mono (fun _ h c => ⟨(h.1 c).1.trans ?_, (h.1 c).2⟩) (Mesh.run_main (F := Ideal) m ρ),
    (θ_run Cert.ReferenceIdeal.defs _ _).mono (fun _ h => h 0) (Mesh.Ref.run_ref m' ρ')⟩
  rw [hX, hY]
  exact Mesh.whole_eq_ref _ _

/-- The certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
